-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)) (v3 : (c : Dev Cert.KernelIdeal.nD) → Buf (Elt Ideal) ((c.tc : Thread Cert.KernelIdeal.nD Cert.KernelIdeal.τ).loc Cert.KernelIdeal.main_v1_3)) (v4 : (c : Dev Cert.KernelIdeal.nD) → Buf (Elt Ideal) ((c.tc : Thread Cert.KernelIdeal.nD Cert.KernelIdeal.τ).loc Cert.KernelIdeal.main_v1_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_v1_3) = v3 c
          ∧ r.2.mem ((c.tc : Thread Cert.KernelIdeal.nD Cert.KernelIdeal.τ).loc Cert.KernelIdeal.main_v1_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_v0_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S16x1x4096 : Shape := ⟨3, ![16, 1, 4096]⟩
abbrev S4096x6144 : Shape := ⟨2, ![4096, 6144]⟩
abbrev S_ : Shape := ⟨0, ![]⟩

class Facts : Prop where
  bitsLt_bf16_f32 : FTy.bits .bf16 < FTy.bits .f32
  bcast_S_S16x1x4096 : S_.BroadcastsInDim S16x1x4096 (![] : Fin 0 → Fin S16x1x4096.rank)
  reducesTo_S16x1x4096_S_d0_1_2 : S16x1x4096.ReducesTo [0, 1, 2] S_
  h_S_ : 0 < S_.numel
  bcast_S_S4096x6144 : S_.BroadcastsInDim S4096x6144 (![] : Fin 0 → Fin S4096x6144.rank)
  reducesTo_S4096x6144_S_d0_1 : S4096x6144.ReducesTo [0, 1] S_

variable [Facts]

def fn {F : FTy → Type} [FloatOps F] (main_arg0 : FVec F S16x1x4096 .bf16) (main_arg1 : FVec F S4096x6144 .bf16) : IVec S_ 1 :=
  let main_v0 : FVec F S16x1x4096 .f32 := (extf .f32 · bitsLt_bf16_f32) main_arg0
  let main_v1 : FVec F S16x1x4096 .f32 := Host.absf main_v0
  let main_cst : FVec F S_ .f32 := constant S_ .f32 0x7F7F0000#32
  let main_v2 : FVec F S16x1x4096 .f32 := broadcastInDim S16x1x4096 ![] bcast_S_S16x1x4096 main_cst
  let main_v3 : IVec S16x1x4096 1 := cmpf .ole main_v1 main_v2
  let main_c : IVec S_ 1 := constantI S_ 1 1#1
  let main_v4 : IVec S_ 1 := (fun x v => Host.reduce IntOp.andi x v reducesTo_S16x1x4096_S_d0_1_2 h_S_) main_v3 main_c
  let main_v5 : FVec F S4096x6144 .f32 := (extf .f32 · bitsLt_bf16_f32) main_arg1
  let main_v6 : FVec F S4096x6144 .f32 := Host.absf main_v5
  let main_cst_0 : FVec F S_ .f32 := constant S_ .f32 0x7F7F0000#32
  let main_v7 : FVec F S4096x6144 .f32 := broadcastInDim S4096x6144 ![] bcast_S_S4096x6144 main_cst_0
  let main_v8 : IVec S4096x6144 1 := cmpf .ole main_v6 main_v7
  let main_c_1 : IVec S_ 1 := constantI S_ 1 1#1
  let main_v9 : IVec S_ 1 := (fun x v => Host.reduce IntOp.andi x v reducesTo_S4096x6144_S_d0_1 h_S_) main_v8 main_c_1
  let main_v10 : IVec S_ 1 := andi main_v4 main_v9
  main_v10
-- ==== Kernel.lean ====
abbrev S16x1x4096 : Shape := ⟨3, ![16, 1, 4096]⟩
abbrev S4096x6144 : Shape := ⟨2, ![4096, 6144]⟩
abbrev S16x4096 : Shape := ⟨2, ![16, 4096]⟩
abbrev S16x6144 : Shape := ⟨2, ![16, 6144]⟩
abbrev S16x32 : Shape := ⟨2, ![16, 32]⟩
abbrev S32x48 : Shape := ⟨2, ![32, 48]⟩
abbrev S256x6144 : Shape := ⟨2, ![256, 6144]⟩
abbrev S16x128 : Shape := ⟨2, ![16, 128]⟩
abbrev S16 : Shape := ⟨1, ![16]⟩
abbrev S16x1 : Shape := ⟨2, ![16, 1]⟩
abbrev S8x48 : Shape := ⟨2, ![8, 48]⟩
abbrev S128x128 : Shape := ⟨2, ![128, 128]⟩
abbrev S8x16x128 : Shape := ⟨3, ![8, 16, 128]⟩
abbrev S1x16x128 : Shape := ⟨3, ![1, 16, 128]⟩
abbrev S1 : Shape := ⟨1, ![1]⟩
abbrev S1x1x1 : Shape := ⟨3, ![1, 1, 1]⟩
abbrev S1x1 : Shape := ⟨2, ![1, 1]⟩
abbrev S8x128 : Shape := ⟨2, ![8, 128]⟩
abbrev S16x256 : Shape := ⟨2, ![16, 256]⟩
abbrev S32x256 : Shape := ⟨2, ![32, 256]⟩
abbrev S256x256 : Shape := ⟨2, ![256, 256]⟩
abbrev S1x48 : Shape := ⟨2, ![1, 48]⟩

abbrev nBuf : Space → Nat
  | .hbm => 8
  | .vmem => 11
  | .smem => 0
  | _ => 0

abbrev bufTy : (tb : Table) → Fin (tcTables nBuf tb) → BufTy
  | .hbm, ⟨0, _⟩ => ⟨S16x1x4096, .bf16⟩
  | .hbm, ⟨1, _⟩ => ⟨S4096x6144, .bf16⟩
  | .hbm, ⟨2, _⟩ => ⟨S16x4096, .bf16⟩
  | .hbm, ⟨3, _⟩ => ⟨S16x6144, .bf16⟩
  | .hbm, ⟨4, _⟩ => ⟨S16x4096, .fp8e4m3⟩
  | .hbm, ⟨5, _⟩ => ⟨S16x32, .i8⟩
  | .hbm, ⟨6, _⟩ => ⟨S4096x6144, .fp8e4m3⟩
  | .hbm, ⟨7, _⟩ => ⟨S32x48, .i32⟩
  | .local _ .vmem, ⟨0, _⟩ => ⟨S16x4096, .bf16⟩
  | .local _ .vmem, ⟨1, _⟩ => ⟨S256x6144, .bf16⟩
  | .local _ .vmem, ⟨2, _⟩ => ⟨S256x6144, .bf16⟩
  | .local _ .vmem, ⟨3, _⟩ => ⟨S16x6144, .bf16⟩
  | .local _ .vmem, ⟨4, _⟩ => ⟨S16x4096, .fp8e4m3⟩
  | .local _ .vmem, ⟨5, _⟩ => ⟨S16x32, .i8⟩
  | .local _ .vmem, ⟨6, _⟩ => ⟨S256x6144, .fp8e4m3⟩
  | .local _ .vmem, ⟨7, _⟩ => ⟨S256x6144, .fp8e4m3⟩
  | .local _ .vmem, ⟨8, _⟩ => ⟨S32x48, .i32⟩
  | .local _ .vmem, ⟨9, _⟩ => ⟨S16x4096, .bf16⟩
  | .local _ .vmem, ⟨10, _⟩ => ⟨S16x6144, .f32⟩
  | _, _ => ⟨S16x1x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev main_v1_3 : Ref sig .tc := ⟨.hbm, 6, rfl⟩
abbrev main_v1_4 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8

abbrev nD : Nat := 1
abbrev τ : Topo := Topo.v7x

variable {F : FTy → Type} [FloatOps F]

abbrev grid0 : Pipeline.Grid := ⟨1, ![16], ![false]⟩

def k0_off1 (i : grid0.Coords) (c0_i32_3 : BitVec 32) : Fin 2 → Nat :=
  let c0 : Index := 0#32
  let arg0 : BitVec 32 := BitVec.ofNat 32 (i 0).val
  let c256_i32 : BitVec 32 := 256#32
  let v6 : BitVec 32 := Scalar.muli arg0 c256_i32
  let v7 : BitVec 32 := Scalar.addi v6 c0_i32_3
  let v8 : Index := Scalar.indexCast v7
  ![0, v8.toNat]
def k0_off2 (i : grid0.Coords) (c0_i32_3237 : BitVec 32) : Fin 2 → Nat :=
  let arg0 : BitVec 32 := BitVec.ofNat 32 (i 0).val
  let c2_i32_3236 : BitVec 32 := 2#32
  let v10335 : BitVec 32 := Scalar.muli arg0 c2_i32_3236
  let v10336 : BitVec 32 := Scalar.addi v10335 c0_i32_3237
  let v10337 : Index := Scalar.indexCast v10336
  let c0_3238 : Index := 0#32
  ![v10337.toNat, 0]
def k0_cond2 (i : grid0.Coords) : BitVec 1 :=
  let arg0 : BitVec 32 := BitVec.ofNat 32 (i 0).val
  let c15_i32_3242 : BitVec 32 := 15#32
  let v10344 : BitVec 1 := Scalar.cmpi .eq arg0 c15_i32_3242
  let v10345 : BitVec 32 := Scalar.extui v10344
  let c0_i32_3243 : BitVec 32 := 0#32
  let v10346 : BitVec 1 := Scalar.cmpi .ne v10345 c0_i32_3243
  v10346

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S16x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x6144 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16x6144 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x4096 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x32 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x6144 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S32x48 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S16x1x4096 : Shape := ⟨3, ![16, 1, 4096]⟩
abbrev S4096x6144 : Shape := ⟨2, ![4096, 6144]⟩
abbrev S16x6144 : Shape := ⟨2, ![16, 6144]⟩
abbrev S16x4096 : Shape := ⟨2, ![16, 4096]⟩
abbrev S16x32 : Shape := ⟨2, ![16, 32]⟩
abbrev S32x48 : Shape := ⟨2, ![32, 48]⟩
abbrev S16x32x128 : Shape := ⟨3, ![16, 32, 128]⟩
abbrev S16x32x254 : Shape := ⟨3, ![16, 32, 254]⟩
abbrev S16x32x1 : Shape := ⟨3, ![16, 32, 1]⟩
abbrev S32x128x48x128 : Shape := ⟨4, ![32, 128, 48, 128]⟩
abbrev S32x48x254 : Shape := ⟨3, ![32, 48, 254]⟩
abbrev S32x48x1 : Shape := ⟨3, ![32, 48, 1]⟩
abbrev S32x1x48x1 : Shape := ⟨4, ![32, 1, 48, 1]⟩

abbrev nBuf : Space → Nat
  | .hbm => 7
  | .vmem => 7
  | .smem => 0
  | _ => 0

abbrev bufTy : (tb : Table) → Fin (tcTables nBuf tb) → BufTy
  | .hbm, ⟨0, _⟩ => ⟨S16x1x4096, .bf16⟩
  | .hbm, ⟨1, _⟩ => ⟨S4096x6144, .bf16⟩
  | .hbm, ⟨2, _⟩ => ⟨S16x6144, .bf16⟩
  | .hbm, ⟨3, _⟩ => ⟨S16x4096, .fp8e4m3⟩
  | .hbm, ⟨4, _⟩ => ⟨S16x32, .i8⟩
  | .hbm, ⟨5, _⟩ => ⟨S4096x6144, .fp8e4m3⟩
  | .hbm, ⟨6, _⟩ => ⟨S32x48, .i32⟩
  | .local _ .vmem, ⟨0, _⟩ => ⟨S16x1x4096, .bf16⟩
  | .local _ .vmem, ⟨1, _⟩ => ⟨S4096x6144, .bf16⟩
  | .local _ .vmem, ⟨2, _⟩ => ⟨S16x6144, .bf16⟩
  | .local _ .vmem, ⟨3, _⟩ => ⟨S16x4096, .fp8e4m3⟩
  | .local _ .vmem, ⟨4, _⟩ => ⟨S16x32, .i8⟩
  | .local _ .vmem, ⟨5, _⟩ => ⟨S4096x6144, .fp8e4m3⟩
  | .local _ .vmem, ⟨6, _⟩ => ⟨S32x48, .i32⟩
  | _, _ => ⟨S16x1x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v0_3 : Ref sig .tc := ⟨.hbm, 5, rfl⟩
abbrev main_v0_4 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S16x1x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x6144 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x6144 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x4096 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x32 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4096x6144 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S32x48 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Sched.lean ====
/-
  What the runs of the kernel's body are stated over: where the body's branches are taken, the memrefs it is called on, the scratch
  it carries from one point to the next, and the frame claim's post from a run whose outputs are held to predicates.
-/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The frame claim's post, from a run whose proof data are relational. -/
theorem frame_of_rel (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).2 main_arg0 (Pipeline.mem_restRefs_of main_arg0 (by decide) (by decide))).trans (V_main_arg0 m c),
      (Pipeline.RDat.FramePost.arr_in h c 1 rfl).trans ((hA c 1).trans (V_main_arg1 m c))⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 16 = 0 :=
  (fun t => by
    have ht : t.val < 16 := Nat.lt_of_lt_of_eq t.isLt N_0
    have e0 : (grid0.coords t 0).val = t.val / 1 % 16 := Pipeline.Grid.coords_val t 0 (by decide) rfl
    simp only [cond0_0, k0_cond1, e0]
    word_cmp
   : ∀ t : Fin grid0.N, cond0_0 (grid0.coords t) ↔ t.val % 16 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 16 = 15 :=
  (fun t => by
    have ht : t.val < 16 := Nat.lt_of_lt_of_eq t.isLt N_0
    have e0 : (grid0.coords t 0).val = t.val / 1 % 16 := Pipeline.Grid.coords_val t 0 (by decide) rfl
    simp only [cond0_1, k0_cond2, e0]
    word_cmp
   : ∀ t : Fin grid0.N, cond0_1 (grid0.coords t) ↔ t.val % 16 = 15)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S16x4096 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x6144 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S16x6144 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S16x4096 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S16x32 .i8 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x6144 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S32x48 .i32 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S16x4096 .bf16 := Memref.whole cc0_scratch0
abbrev scM0_1 : Memref sig .tc .vmem S16x6144 .f32 := Memref.whole cc0_scratch1
/-- The scratch `arg8` the kernel carries between points, as a view: what it holds is stated through it. -/
abbrev VS0_0 : View sig .tc .vmem S16x4096 .bf16 := scM0_0.view
/-- The scratch `arg9` the kernel carries between points, as a view: what it holds is stated through it. -/
abbrev VS0_1 : View sig .tc .vmem S16x6144 .f32 := scM0_1.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Hand

end
-- ==== Proof.RunA.lean ====
/-
  The run of the kernel's body at the first point: the activation is quantised, the accumulator zeroed, and the first block of the weight quantised and accumulated.
-/
module

public import proofs.«01_k».proof.Proof.Sched

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 12688000 in
/-- What the body leaves in each buffer it stores into, as the pieces stored (the last first), with the proof that it runs: from the two
    inputs' staging buffers, the scale buffer of the weight at the contents found, every other buffer it stores into at anything, and the
    scratch as the point before left it, to the same inputs and each of those buffers with its pieces written. -/
noncomputable def runA (c : Dev nD) (i : grid0.Coords) (arg1 : Memref sig .tc .vmem S16x4096 .bf16) (harg1 : arg1.IsWhole) (arg2 : Memref sig .tc .vmem S256x6144 .bf16) (harg2 : arg2.IsWhole) (arg3 : Memref sig .tc .vmem S16x6144 .bf16) (harg3 : arg3.IsWhole) (arg4 : Memref sig .tc .vmem S16x4096 .fp8e4m3) (harg4 : arg4.IsWhole) (arg5 : Memref sig .tc .vmem S16x32 .i8) (harg5 : arg5.IsWhole) (arg6 : Memref sig .tc .vmem S256x6144 .fp8e4m3) (harg6 : arg6.IsWhole) (arg7 : Memref sig .tc .vmem S32x48 .i32) (harg7 : arg7.IsWhole) (arg8 : Memref sig .tc .vmem S16x4096 .bf16) (harg8 : arg8.IsWhole) (arg9 : Memref sig .tc .vmem S16x6144 .f32) (harg9 : arg9.IsWhole) (hc0 : cond0_0 i) (hc1 : ¬cond0_1 i)
    (x0 : Vec F S16x4096 .bf16) (x1 : Vec F S256x6144 .bf16) (y6 : Vec F S32x48 .i32) :
    Σ' (L3 : List (View.Piece (Elt F) S16x4096 .fp8e4m3)), Σ' (L4 : List (View.Piece (Elt F) S16x32 .i8)), Σ' (L5 : List (View.Piece (Elt F) S256x6144 .fp8e4m3)), Σ' (L6 : List (View.Piece (Elt F) S32x48 .i32)), Σ' (LS0 : List (View.Piece (Elt F) S16x4096 .bf16)), { LS1 : List (View.Piece (Elt F) S16x6144 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ owns (c : Thread nD τ) arg7 fullShare y6 ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ (∃ d, owns (c : Thread nD τ) arg3 fullShare d) ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (arg7.view.loc (c : Thread nD τ) ↦[arg7.view.set]{fullShare} arg7.view.writes (Elt F) (harg7.unread y6) L6) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0_rollout_fp8_linear i arg1 harg1 arg2 harg2 arg3 harg3 arg4 harg4 arg5 harg5 arg6 harg6 arg7 harg7 arg8 harg8 arg9 harg9) K } := by
  refine ⟨?_, ?_, ?_, ?_, ?_, ?_, fun E K => ?run⟩
  case run =>
    simp only [cc0_rollout_fp8_linear_eq_skeleton]; unfold cc0_rollout_fp8_linear_skel
    simp only [k0_part303_eq_skeleton, k0_part73_eq_skeleton, k0_part72_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part304_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part305_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part306_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part271_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton, k0_part284_eq_skeleton, k0_part285_eq_skeleton, k0_part286_eq_skeleton, k0_part287_eq_skeleton, k0_part288_eq_skeleton, k0_part289_eq_skeleton, k0_part290_eq_skeleton, k0_part291_eq_skeleton, k0_part292_eq_skeleton, k0_part293_eq_skeleton, k0_part294_eq_skeleton, k0_part295_eq_skeleton, k0_part296_eq_skeleton, k0_part297_eq_skeleton, k0_part298_eq_skeleton, k0_part299_eq_skeleton, k0_part300_eq_skeleton, k0_part301_eq_skeleton, k0_part302_eq_skeleton]
    unfold owns
    iintro ⟨⟨%f0, %hf0, H0⟩, ⟨%f1, %hf1, H1⟩, ⟨%d2, %f2, -, H2⟩, ⟨%d3, %f3, -, H3⟩, ⟨%d4, %f4, -, H4⟩, ⟨%d5, %f5, -, H5⟩, ⟨%f6, %hf6, H6⟩, ⟨%ds0, %fs0, -, HS0⟩, ⟨%ds1, %fs1, -, HS1⟩, Hk⟩
    obtain rfl := harg1.eq_unread hf0; obtain rfl := harg2.eq_unread hf1; obtain rfl := harg7.eq_unread hf6
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _, _; isplitr; swap; · iexact H2
      ipureintro; rfl
    isplitl [H3]; · iexists _; iexact H3
    isplitl [H4]; · iexists _; iexact H4
    isplitl [H5]; · iexists _; iexact H5
    isplitl [H6]; · iexact H6
    isplitl [HS0]; · iexists _; iexact HS0
    iexists _; iexact HS1

end Cert.KernelIdeal.Hand

end
-- ==== Proof.Vocab.lean ====
/-
  The kernel's operations on whole vectors, named: the exponent of a vector of maxima, what one block of the weight quantises to, and
  what one pair of blocks adds to the accumulator. The pieces the body's runs store are these functions of what it loads.
-/
module

public import proofs.«01_k».proof.Proof.Sched

@[expose] public section

noncomputable section

namespace Cert.KernelIdeal.Hand

open Idealize.ShloMosaic Idealize.ShloMosaic.TcCoe
open Cert.KernelIdeal.Gen

variable {F : FTy → Type} [FloatOps F]

/-- One step of the search for the exponent field: the bit is kept if the float of the word with it is at most `q`. -/
def srch {s : Shape} (b : BitVec 32) (q : FVec F s .f32) (w : IVec s 32) : IVec s 32 :=
  select (cmpf .oge q (bitcastToFloat .f32 (ori w (broadcast s b)))) (ori w (broadcast s b)) w

/-- The exponent field of `q`, in place. -/
def fieldV {s : Shape} (q : FVec F s .f32) : IVec s 32 :=
  srch 8388608#32 q (srch 16777216#32 q (srch 33554432#32 q (srch 67108864#32 q (srch 134217728#32 q
    (srch 268435456#32 q (srch 536870912#32 q (srch 1073741824#32 q (broadcast s 0#32))))))))

/-- The exponent field of `q`. -/
def biased {s : Shape} (q : FVec F s .f32) : IVec s 32 := andi (shrsi (fieldV q) (broadcast s 23#32)) (broadcast s 255#32)

/-- The exponent of a vector of maxima, from the field `b` of its quotient. -/
def expoOf {s : Shape} (a : FVec F s .f32) (b : IVec s 32) : IVec s 32 :=
  select (ori (ori (cmpi .eq b (broadcast s 0#32)) (cmpi .eq b (broadcast s 255#32))) (cmpf .oeq a (broadcast s (Scalar.ofBits .f32 0x00000000#32))))
    (broadcast s 0#32) (subi b (broadcast s 126#32))

/-- The exponent of a vector of maxima. -/
def expo {s : Shape} (a : FVec F s .f32) : IVec s 32 :=
  expoOf a (biased (mulf a (broadcast s (Scalar.ofBits .f32 0x3B124925#32))))

/-- Two to a vector of exponents. -/
def pow2 {s : Shape} (e : IVec s 32) : FVec F s .f32 := bitcastToFloat .f32 (shli (addi e (broadcast s 127#32)) (broadcast s 23#32))

/-- Two to the negated exponents. -/
def pow2n {s : Shape} (e : IVec s 32) : FVec F s .f32 := pow2 (subi (broadcast s 0#32) e)

/-! ## One block of the weight -/

/-- The largest magnitude of a block, at every index of an 8 x 128 vector. -/
def wAmax (b : Vec F S128x128 .bf16) : FVec F S8x128 .f32 :=
  broadcastTo S8x128 (shapeCast S1x1 (broadcast S1x1 (extractAt ![0, 0, 0] (shapeCast S1x1x1 (multiReduction .maximumf [1, 2] S1
    (shapeCast S1x16x128 (extf .f32 (multiReduction .maximumf [0] S16x128 (shapeCast S8x16x128 (absf b) shapeCasts_S128x128_S8x16x128) 0xFF80#16
      reduces_S8x16x128_S16x128 (.inr rfl) rfl) bitsLt_bf16_f32) shapeCasts_S16x128_S1x16x128) 0xFF800000#32 reduces_S1x16x128_S1 (.inl rfl) rfl)
    shapeCasts_S1_S1x1x1) inpos_S1x1x1_p0_0_0)) shapeCasts_S1x1_S1x1) broadcasts_S1x1_S8x128

/-- The exponent of a block. -/
def wExp (b : Vec F S128x128 .bf16) : IVec S8x128 32 := expo (wAmax b)

/-- The codes of a block, from its exponent. -/
def wCodesOf (b : Vec F S128x128 .bf16) (e : IVec S8x128 32) : FVec F S128x128 .fp8e4m3 :=
  let d : FVec F S8x128 .bf16 := truncf .bf16 (pow2n e) bitsLt_bf16_f32
  truncf .fp8e4m3 (minimumf (broadcast S128x128 (Scalar.truncf .bf16 bitsLt_bf16_f32 (Scalar.ofBits .f32 0x43E00000#32)))
    (maximumf (broadcast S128x128 (Scalar.truncf .bf16 bitsLt_bf16_f32 (Scalar.ofBits .f32 0xC3E00000#32)))
      (mulf b (concatenate S128x128 0 [⟨S8x128, d⟩, ⟨S8x128, d⟩, ⟨S8x128, d⟩, ⟨S8x128, d⟩, ⟨S8x128, d⟩, ⟨S8x128, d⟩, ⟨S8x128, d⟩, ⟨S8x128, d⟩, ⟨S8x128, d⟩, ⟨S8x128, d⟩, ⟨S8x128, d⟩, ⟨S8x128, d⟩, ⟨S8x128, d⟩, ⟨S8x128, d⟩, ⟨S8x128, d⟩, ⟨S8x128, d⟩]
        concatenates_S8x128_S8x128_S8x128_S8x128_S8x128_S8x128_S8x128_S8x128_S8x128_S8x128_S8x128_S8x128_S8x128_S8x128_S8x128_S8x128_S128x128_d0)))) bitsLt_fp8e4m3_bf16

/-- The codes of a block. -/
def wCodes (b : Vec F S128x128 .bf16) : FVec F S128x128 .fp8e4m3 := wCodesOf b (wExp b)

/-- A block's part of the left operand: a block of the activation, scaled by the weight block's scale. -/
def wPart (xd : Vec F S16x128 .bf16) (b : Vec F S128x128 .bf16) : FVec F S16x128 .bf16 :=
  let u : FVec F S8x128 .bf16 := truncf .bf16 (pow2 (wExp b)) bitsLt_bf16_f32
  mulf xd (concatenate S16x128 0 [⟨S8x128, u⟩, ⟨S8x128, u⟩] concatenates_S8x128_S8x128_S16x128_d0)

/-- The left operand of one column of blocks. -/
def wHalf (xd0 xd1 : Vec F S16x128 .bf16) (b0 b1 : Vec F S128x128 .bf16) : FVec F S16x256 .bf16 :=
  concatenate S16x256 1 [⟨S16x128, wPart xd0 b0⟩, ⟨S16x128, wPart xd1 b1⟩] concatenates_S16x128_S16x128_S16x256_d1

/-- The product of two stacked left operands with the codes of two columns of blocks. -/
def wProd (l r : FVec F S16x256 .bf16) (wc : Vec F S256x256 .fp8e4m3) : FVec F S32x256 .f32 :=
  matmul dot_S32x256_S256x256_S32x256_1_0_0_1_n_n none (concatenate S32x256 0 [⟨S16x256, l⟩, ⟨S16x256, r⟩] concatenates_S16x256_S16x256_S32x256_d0)
    (shapeCast S256x256 wc shapeCasts_S256x256_S256x256) (constant S32x256 .f32 0x00000000#32)

/-- The accumulator after the left column of blocks. -/
def accL (a : Vec F S16x128 .f32) (p : FVec F S32x256 .f32) : FVec F S16x128 .f32 :=
  shapeCast S16x128 (addf a (extractStridedSlice S16x128 ![0, 0] p slices_S32x256_o0_0_S16x128)) shapeCasts_S16x128_S16x128

/-- The accumulator after the right column of blocks. -/
def accR (a : Vec F S16x128 .f32) (p : FVec F S32x256 .f32) : FVec F S16x128 .f32 :=
  shapeCast S16x128 (addf a (extractStridedSlice S16x128 ![16, 128] p slices_S32x256_o16_128_S16x128)) shapeCasts_S16x128_S16x128

/-- The scales of the first `n` blocks of a row of blocks, a block to a lane; the other lanes hold 0. -/
def wScales (b : Fin 48 → Vec F S128x128 .bf16) : (n : ℕ) → n ≤ 48 → IVec S8x48 32
  | 0, _ => broadcast S8x48 0#32
  | n + 1, h => select (cmpi .eq (iota .tc S8x48 32 [1] iota_S8x48_d1_w32) (broadcast S8x48 (BitVec.ofNat 32 n)))
      (addi (extractStridedSlice S8x48 ![0, 0] (wExp (b ⟨n, h⟩)) slices_S8x128_o0_0_S8x48) (broadcast S8x48 127#32)) (wScales b n (Nat.le_of_succ_le h))

/-- One row of them. -/
def wScaleRow (b : Fin 48 → Vec F S128x128 .bf16) : IVec S1x48 32 :=
  extractStridedSlice S1x48 ![0, 0] (wScales b 48 (Nat.le_refl _)) slices_S8x48_o0_0_S1x48

/-! ## One block of the activation -/

/-- A block of the activation, in the wider float. -/
def xWide (b : Vec F S16x128 .bf16) : FVec F S16x128 .f32 := extf .f32 (shapeCast S16x128 b shapeCasts_S16x128_S16x128) bitsLt_bf16_f32

/-- The largest magnitude of each row of a block, along the row. -/
def xAmax (b : Vec F S16x128 .bf16) : FVec F S16x128 .f32 :=
  broadcastTo S16x128 (shapeCast S16x1 (shapeCast S16x1 (multiReduction .maximumf [1] S16 (absf (xWide b)) 0xFF800000#32 reduces_S16x128_S16 (.inl rfl) rfl)
    shapeCasts_S16_S16x1) shapeCasts_S16x1_S16x1) broadcasts_S16x1_S16x128

/-- The exponents of a block's rows. -/
def xExp (b : Vec F S16x128 .bf16) : IVec S16x128 32 := expo (xAmax b)

/-- The codes of a block. -/
def xCodes (b : Vec F S16x128 .bf16) : FVec F S16x128 .fp8e4m3 :=
  truncf .fp8e4m3 (minimumf (broadcast S16x128 (Scalar.ofBits .f32 0x43E00000#32)) (maximumf (broadcast S16x128 (Scalar.ofBits .f32 0xC3E00000#32))
    (mulf (xWide b) (pow2n (xExp b))))) bitsLt_fp8e4m3_f32

/-- The codes of a block, scaled back. -/
def xScaled (b : Vec F S16x128 .bf16) : FVec F S16x128 .bf16 :=
  shapeCast S16x128 (mulf (extf .bf16 (xCodes b) bitsLt_fp8e4m3_bf16) (truncf .bf16 (pow2 (xExp b)) bitsLt_bf16_f32)) shapeCasts_S16x128_S16x128

/-- The scales of the first `n` blocks, a block to a lane; the other lanes hold 0. -/
def xScales (b : Fin 32 → Vec F S16x128 .bf16) : (n : ℕ) → n ≤ 32 → IVec S16x32 32
  | 0, _ => broadcast S16x32 0#32
  | n + 1, h => select (cmpi .eq (iota .tc S16x32 32 [1] iota_S16x32_d1_w32) (broadcast S16x32 (BitVec.ofNat 32 n)))
      (addi (extractStridedSlice S16x32 ![0, 0] (xExp (b ⟨n, h⟩)) slices_S16x128_o0_0_S16x32) (broadcast S16x32 127#32)) (xScales b n (Nat.le_of_succ_le h))

/-- All of them, narrowed. -/
def xScaleAll (b : Fin 32 → Vec F S16x128 .bf16) : IVec S16x32 8 := trunci 8 (xScales b 32 (Nat.le_refl _)) natLt_8_32

end Cert.KernelIdeal.Hand

end
-- ==== Proof.Chains.lean ====
/-
  The lists of pieces that the body's runs leave, described once for every run: which block each piece fills and with what, and what a
  buffer holds after such a list.
-/
module

public import proofs.«01_k».proof.Proof.Vocab

@[expose] public section

set_option maxRecDepth 16384

noncomputable section

namespace Cert.KernelIdeal.Hand

open Idealize.ShloMosaic Idealize.ShloMosaic.TcCoe
open Cert.KernelIdeal.Gen

variable {F : FTy → Type} [FloatOps F]

/-! ## Indices of two coordinates -/

/-- The index of a rank-2 shape at two coordinates, each reduced modulo its axis. -/
def ix2 {n m : ℕ} (hn : 0 < n) (hm : 0 < m) (a b : ℕ) : (⟨2, ![n, m]⟩ : Shape).Idx := fun k =>
  match k with
  | ⟨0, _⟩ => ⟨a % n, Nat.mod_lt _ hn⟩
  | ⟨1, _⟩ => ⟨b % m, Nat.mod_lt _ hm⟩

theorem ix2_0 {n m : ℕ} (hn : 0 < n) (hm : 0 < m) (a b : ℕ) : (ix2 hn hm a b 0).val = a % n := rfl
theorem ix2_1 {n m : ℕ} (hn : 0 < n) (hm : 0 < m) (a b : ℕ) : (ix2 hn hm a b 1).val = b % m := rfl

theorem idx2_ext {n m : ℕ} {x y : (⟨2, ![n, m]⟩ : Shape).Idx} (h0 : (x 0).val = (y 0).val) (h1 : (x 1).val = (y 1).val) : x = y :=
  funext fun k => match k with
    | ⟨0, _⟩ => Fin.ext h0
    | ⟨1, _⟩ => Fin.ext h1

theorem idx2_lt0 {n m : ℕ} (y : (⟨2, ![n, m]⟩ : Shape).Idx) : (y 0).val < n := (y 0).isLt
theorem idx2_lt1 {n m : ℕ} (y : (⟨2, ![n, m]⟩ : Shape).Idx) : (y 1).val < m := (y 1).isLt

theorem ix2_self {n m : ℕ} (hn : 0 < n) (hm : 0 < m) (y : (⟨2, ![n, m]⟩ : Shape).Idx) : ix2 hn hm (y 0).val (y 1).val = y :=
  idx2_ext (Nat.mod_eq_of_lt (idx2_lt0 y)) (Nat.mod_eq_of_lt (idx2_lt1 y))

abbrev iW (a b : ℕ) : S256x6144.Idx := ix2 (n := 256) (m := 6144) (by omega) (by omega) a b
abbrev iX (a b : ℕ) : S16x4096.Idx := ix2 (n := 16) (m := 4096) (by omega) (by omega) a b
abbrev iY (a b : ℕ) : S16x6144.Idx := ix2 (n := 16) (m := 6144) (by omega) (by omega) a b
abbrev iB (a b : ℕ) : S128x128.Idx := ix2 (n := 128) (m := 128) (by omega) (by omega) a b
abbrev iR (a b : ℕ) : S16x128.Idx := ix2 (n := 16) (m := 128) (by omega) (by omega) a b

/-! ## Blocks of arrays -/

/-- Block `(i, j)` of the weight's window. -/
def blkW (x : Vec F S256x6144 .bf16) (i j : ℕ) : Vec F S128x128 .bf16 := fun z => x (iW (128 * i + (z 0).val) (128 * j + (z 1).val))

/-- Block `j` of the activation. -/
def blkX (x : Vec F S16x4096 .bf16) (j : ℕ) : Vec F S16x128 .bf16 := fun z => x (iX (z 0).val (128 * j + (z 1).val))

/-- Block `j` of the accumulator. -/
def blkY (a : Vec F S16x6144 .f32) (j : ℕ) : Vec F S16x128 .f32 := fun z => a (iY (z 0).val (128 * j + (z 1).val))

/-- The codes of the weight's window. -/
def codesW (x : Vec F S256x6144 .bf16) : Vec F S256x6144 .fp8e4m3 := fun y =>
  wCodes (blkW x ((y 0).val / 128) ((y 1).val / 128)) (iB (y 0).val (y 1).val)

/-- Columns `256 * jt` to `256 * jt + 255` of them. -/
def codesCol (x : Vec F S256x6144 .bf16) (jt : ℕ) : Vec F S256x256 .fp8e4m3 := fun z => codesW x (iW (z 0).val (256 * jt + (z 1).val))

/-- The product for column `jt`, from two blocks of the scaled activation. -/
def prodCol (xd0 xd1 : Vec F S16x128 .bf16) (x : Vec F S256x6144 .bf16) (jt : ℕ) : FVec F S32x256 .f32 :=
  wProd (wHalf xd0 xd1 (blkW x 0 (2 * jt)) (blkW x 1 (2 * jt))) (wHalf xd0 xd1 (blkW x 0 (2 * jt + 1)) (blkW x 1 (2 * jt + 1))) (codesCol x jt)

/-- One block of the accumulator after a point. -/
def accBlk (xd0 xd1 : Vec F S16x128 .bf16) (x : Vec F S256x6144 .bf16) (a : Vec F S16x128 .f32) (j : ℕ) : FVec F S16x128 .f32 :=
  if j % 2 = 0 then accL a (prodCol xd0 xd1 x (j / 2)) else accR a (prodCol xd0 xd1 x (j / 2))

/-- The accumulator after a point. -/
def accStep (xd0 xd1 : Vec F S16x128 .bf16) (x : Vec F S256x6144 .bf16) (a : Vec F S16x6144 .f32) : Vec F S16x6144 .f32 := fun y =>
  accBlk xd0 xd1 x (blkY a ((y 1).val / 128)) ((y 1).val / 128) (iR (y 0).val (y 1).val)

/-- The activation's codes. -/
def codesX (x : Vec F S16x4096 .bf16) : Vec F S16x4096 .fp8e4m3 := fun y => xCodes (blkX x ((y 1).val / 128)) (iR (y 0).val (y 1).val)

/-- The activation's codes, scaled back. -/
def scaledX (x : Vec F S16x4096 .bf16) : Vec F S16x4096 .bf16 := fun y => xScaled (blkX x ((y 1).val / 128)) (iR (y 0).val (y 1).val)

/-! ## Loads are blocks -/

theorem load_blkW (m : Memref sig .tc .vmem S256x6144 .bf16) (hm : m.IsWhole) (x : Vec F S256x6144 .bf16) (i j : ℕ)
    (h : ∀ a, (![128 * i, 128 * j] : Fin 2 → ℕ) a + S128x128.size a ≤ S256x6144.size a) :
    View.readAt (Elt F) m.view (Rect.unit (s := S256x6144) ![128 * i, 128 * j] S128x128.size h).toLoadRect (hm.unread x) = blkW x i j := by
  funext z
  have h0 : 128 * i + 128 ≤ 256 := h 0
  have h1 : 128 * j + 128 ≤ 6144 := h 1
  have z0 := idx2_lt0 z
  have z1 := idx2_lt1 z
  rw [View.readAt_apply, hm.read_unread]
  refine congrArg x (idx2_ext ?_ ?_)
  · show 128 * i + 1 * (z 0).val = (128 * i + (z 0).val) % 256
    omega
  · show 128 * j + 1 * (z 1).val = (128 * j + (z 1).val) % 6144
    omega

theorem load_blkX (m : Memref sig .tc .vmem S16x4096 .bf16) (hm : m.IsWhole) (x : Vec F S16x4096 .bf16) (j : ℕ) (o : Fin 2 → ℕ) (ho : o = ![0, 128 * j])
    (h : ∀ a, o a + S16x128.size a ≤ S16x4096.size a) :
    View.readAt (Elt F) m.view (Rect.unit (s := S16x4096) o S16x128.size h).toLoadRect (hm.unread x) = blkX x j := by
  subst ho
  funext z
  have h1 : 128 * j + 128 ≤ 4096 := h 1
  have z0 := idx2_lt0 z
  have z1 := idx2_lt1 z
  rw [View.readAt_apply, hm.read_unread]
  refine congrArg x (idx2_ext ?_ ?_)
  · show 0 + 1 * (z 0).val = (z 0).val % 16
    omega
  · show 128 * j + 1 * (z 1).val = (128 * j + (z 1).val) % 4096
    omega

theorem load_blkY (m : Memref sig .tc .vmem S16x6144 .f32) (hm : m.IsWhole) (x : Vec F S16x6144 .f32) (j : ℕ)
    (h : ∀ a, (![0, 128 * j] : Fin 2 → ℕ) a + S16x128.size a ≤ S16x6144.size a) :
    View.readAt (Elt F) m.view (Rect.unit (s := S16x6144) ![0, 128 * j] S16x128.size h).toLoadRect (hm.unread x) = blkY x j := by
  funext z
  have h1 : 128 * j + 128 ≤ 6144 := h 1
  have z0 := idx2_lt0 z
  have z1 := idx2_lt1 z
  rw [View.readAt_apply, hm.read_unread]
  refine congrArg x (idx2_ext ?_ ?_)
  · show 0 + 1 * (z 0).val = (z 0).val % 16
    omega
  · show 128 * j + 1 * (z 1).val = (128 * j + (z 1).val) % 6144
    omega

/-! ## One piece of a list, hit or missed -/

/-- The newest piece of a list, at an index of its rectangle. -/
theorem canon_hit {n m p q : ℕ} {e : EltTy} (o0 o1 : ℕ) (h : ∀ a, (![o0, o1] : Fin 2 → ℕ) a + (![p, q] : Fin 2 → ℕ) a ≤ (![n, m] : Fin 2 → ℕ) a)
    (w : (⟨2, ![p, q]⟩ : Shape).Idx → Elt F e) (L : List (View.Piece (Elt F) (⟨2, ![n, m]⟩ : Shape) e)) (y : (⟨2, ![n, m]⟩ : Shape).Idx)
    (x : (⟨2, ![p, q]⟩ : Shape).Idx) (h0 : (y 0).val = o0 + (x 0).val) (h1 : (y 1).val = o1 + (x 1).val) :
    View.canon (⟨Rect.unit (s := ⟨2, ![n, m]⟩) ![o0, o1] ![p, q] h, w⟩ :: L) y = w x := by
  have e := Rect.emb_eq_of_coords (Rect.unit (s := ⟨2, ![n, m]⟩) ![o0, o1] ![p, q] h) x y fun a => by
    match a with
    | ⟨0, _⟩ => show (y 0).val = o0 + 1 * (x 0).val; omega
    | ⟨1, _⟩ => show (y 1).val = o1 + 1 * (x 1).val; omega
  rw [← e]
  exact View.canon_cons_emb (Rect.unit (s := ⟨2, ![n, m]⟩) ![o0, o1] ![p, q] h) w L x

/-- An index is in a rectangle if both its coordinates are. -/
theorem mem_unit2 {n m p q : ℕ} (o0 o1 : ℕ) (h : ∀ a, (![o0, o1] : Fin 2 → ℕ) a + (![p, q] : Fin 2 → ℕ) a ≤ (![n, m] : Fin 2 → ℕ) a)
    (y : (⟨2, ![n, m]⟩ : Shape).Idx) (h0 : o0 ≤ (y 0).val) (h0' : (y 0).val < o0 + p) (h1 : o1 ≤ (y 1).val) (h1' : (y 1).val < o1 + q) :
    y ∈ (Rect.unit (s := ⟨2, ![n, m]⟩) ![o0, o1] ![p, q] h).set :=
  Rect.mem_set_unit.mpr fun a => match a with
    | ⟨0, _⟩ => ⟨h0, h0'⟩
    | ⟨1, _⟩ => ⟨h1, h1'⟩

/-- The newest piece of a list, off its rows. -/
theorem canon_miss0 {n m p q : ℕ} {e : EltTy} (o0 o1 : ℕ) (h : ∀ a, (![o0, o1] : Fin 2 → ℕ) a + (![p, q] : Fin 2 → ℕ) a ≤ (![n, m] : Fin 2 → ℕ) a)
    (w : (⟨2, ![p, q]⟩ : Shape).Idx → Elt F e) (L : List (View.Piece (Elt F) (⟨2, ![n, m]⟩ : Shape) e)) (y : (⟨2, ![n, m]⟩ : Shape).Idx)
    (hy : (y 0).val < o0 ∨ o0 + p ≤ (y 0).val) :
    View.canon (⟨Rect.unit (s := ⟨2, ![n, m]⟩) ![o0, o1] ![p, q] h, w⟩ :: L) y = View.canon L y :=
  View.canon_cons_of_not_mem _ L (Rect.not_mem_set_of_axis _ y (0 : Fin 2) o0 p rfl rfl rfl hy)

/-- The newest piece of a list, off its columns. -/
theorem canon_miss1 {n m p q : ℕ} {e : EltTy} (o0 o1 : ℕ) (h : ∀ a, (![o0, o1] : Fin 2 → ℕ) a + (![p, q] : Fin 2 → ℕ) a ≤ (![n, m] : Fin 2 → ℕ) a)
    (w : (⟨2, ![p, q]⟩ : Shape).Idx → Elt F e) (L : List (View.Piece (Elt F) (⟨2, ![n, m]⟩ : Shape) e)) (y : (⟨2, ![n, m]⟩ : Shape).Idx)
    (hy : (y 1).val < o1 ∨ o1 + q ≤ (y 1).val) :
    View.canon (⟨Rect.unit (s := ⟨2, ![n, m]⟩) ![o0, o1] ![p, q] h, w⟩ :: L) y = View.canon L y :=
  View.canon_cons_of_not_mem _ L (Rect.not_mem_set_of_axis _ y (1 : Fin 2) o1 q rfl rfl rfl hy)

/-! ## The weight's codes: 96 pieces, two to a column of blocks -/

/-- The in-bounds proof of a block of the weight's window. -/
abbrev InW (i j : ℕ) : Prop := ∀ a, (![128 * i, 128 * j] : Fin 2 → ℕ) a + S128x128.size a ≤ S256x6144.size a

theorem inW (i j : ℕ) (hi : i < 2) (hj : j < 48) : InW i j := fun a => match a with
  | ⟨0, _⟩ => by show 128 * i + 128 ≤ 256; omega
  | ⟨1, _⟩ => by show 128 * j + 128 ≤ 6144; omega

/-- The load of a block of the weight's window. -/
abbrev ldW (m : Memref sig .tc .vmem S256x6144 .bf16) (hm : m.IsWhole) (x : Vec F S256x6144 .bf16) (i j : ℕ) (h : InW i j) : Vec F S128x128 .bf16 :=
  View.readAt (Elt F) m.view (Rect.unit (s := S256x6144) ![128 * i, 128 * j] S128x128.size h).toLoadRect (hm.unread x)

/-- The piece that holds the codes of a block. -/
abbrev pieceW (m : Memref sig .tc .vmem S256x6144 .bf16) (hm : m.IsWhole) (x : Vec F S256x6144 .bf16) (i j : ℕ) (h : InW i j) :
    View.Piece (Elt F) S256x6144 .fp8e4m3 := ⟨Rect.unit ![128 * i, 128 * j] S128x128.size h, wCodes (ldW m hm x i j h)⟩

/-- The pieces of the first `n` columns of blocks. -/
def ChainW (m : Memref sig .tc .vmem S256x6144 .bf16) (hm : m.IsWhole) (x : Vec F S256x6144 .bf16) : ℕ → List (View.Piece (Elt F) S256x6144 .fp8e4m3) → Prop
  | 0, L => L = []
  | n + 1, L => ∃ (h0 : InW 0 n) (h1 : InW 1 n) (rest : List (View.Piece (Elt F) S256x6144 .fp8e4m3)),
      L = pieceW m hm x 1 n h1 :: pieceW m hm x 0 n h0 :: rest ∧ ChainW m hm x n rest

/-- Two pieces of a column of blocks, then anything. -/
theorem canon_colW (m : Memref sig .tc .vmem S256x6144 .bf16) (hm : m.IsWhole) (x : Vec F S256x6144 .bf16) (n : ℕ) (h0 : InW 0 n) (h1 : InW 1 n)
    (rest : List (View.Piece (Elt F) S256x6144 .fp8e4m3)) (y : S256x6144.Idx) :
    View.canon (pieceW m hm x 1 n h1 :: pieceW m hm x 0 n h0 :: rest) y = if (y 1).val / 128 = n then codesW x y else View.canon rest y := by
  have y0 := idx2_lt0 y
  have y1 := idx2_lt1 y
  by_cases hy : (y 1).val / 128 = n
  · rw [if_pos hy]
    by_cases hr : (y 0).val < 128
    · rw [canon_miss0 _ _ _ _ _ _ (by left; omega), canon_hit _ _ _ _ _ y (iB (y 0).val (y 1).val) (by simp only [ix2_0]; omega) (by simp only [ix2_1]; omega)]
      unfold ldW codesW
      rw [load_blkW, show (y 0).val / 128 = 0 by omega, hy]
    · rw [canon_hit _ _ _ _ _ y (iB (y 0).val (y 1).val) (by simp only [ix2_0]; omega) (by simp only [ix2_1]; omega)]
      unfold ldW codesW
      rw [load_blkW, show (y 0).val / 128 = 1 by omega, hy]
  · rw [if_neg hy, canon_miss1 _ _ _ _ _ _ (by omega), canon_miss1 _ _ _ _ _ _ (by omega)]

theorem ChainW.canon_eq {m : Memref sig .tc .vmem S256x6144 .bf16} {hm : m.IsWhole} {x : Vec F S256x6144 .bf16} :
    ∀ {n : ℕ} {L : List (View.Piece (Elt F) S256x6144 .fp8e4m3)}, ChainW m hm x n L → ∀ y : S256x6144.Idx, (y 1).val / 128 < n → View.canon L y = codesW x y
  | 0, _, _, _, hy => absurd hy (Nat.not_lt_zero _)
  | n + 1, L, h, y, hy => by
    obtain ⟨h0, h1, rest, rfl, hr⟩ := h
    rw [canon_colW]
    by_cases e : (y 1).val / 128 = n
    · rw [if_pos e]
    · rw [if_neg e]
      exact hr.canon_eq y (by omega)

theorem ChainW.cover {m : Memref sig .tc .vmem S256x6144 .bf16} {hm : m.IsWhole} {x : Vec F S256x6144 .bf16} :
    ∀ {n : ℕ} {L : List (View.Piece (Elt F) S256x6144 .fp8e4m3)}, ChainW m hm x n L → ∀ y : S256x6144.Idx, (y 1).val / 128 < n → ∃ p ∈ L, y ∈ p.1.set
  | 0, _, _, _, hy => absurd hy (Nat.not_lt_zero _)
  | n + 1, L, h, y, hy => by
    obtain ⟨h0, h1, rest, rfl, hr⟩ := h
    have y0 := idx2_lt0 y
    by_cases e : (y 1).val / 128 = n
    · by_cases hlt : (y 0).val < 128
      · refine ⟨_, List.mem_cons_of_mem _ List.mem_cons_self, ?_⟩
        exact mem_unit2 _ _ h0 y (by omega) (by omega) (by omega) (by omega)
      · refine ⟨_, List.mem_cons_self, ?_⟩
        exact mem_unit2 _ _ h1 y (by omega) (by omega) (by omega) (by omega)
    · obtain ⟨p, hp, hy'⟩ := hr.cover y (by omega)
      exact ⟨p, List.mem_cons_of_mem _ (List.mem_cons_of_mem _ hp), hy'⟩

/-! ## The accumulator: 48 pieces, two to a product -/

abbrev InY (j : ℕ) : Prop := ∀ a, (![0, 128 * j] : Fin 2 → ℕ) a + S16x128.size a ≤ S16x6144.size a
abbrev InC (jt : ℕ) : Prop := ∀ a, (![0, 256 * jt] : Fin 2 → ℕ) a + S256x256.size a ≤ S256x6144.size a

theorem inC (jt : ℕ) (hj : jt < 24) : InC jt := fun a => match a with
  | ⟨0, _⟩ => by show 0 + 256 ≤ 256; omega
  | ⟨1, _⟩ => by show 256 * jt + 256 ≤ 6144; omega

/-- The product as the run spells it: the blocks loaded, and the codes read back from the pieces just stored. -/
abbrev prodRun (m : Memref sig .tc .vmem S256x6144 .bf16) (hm : m.IsWhole) (x : Vec F S256x6144 .bf16) (m6 : Memref sig .tc .vmem S256x6144 .fp8e4m3)
    (xd0 xd1 : Vec F S16x128 .bf16) (jt : ℕ) (h00 : InW 0 (2 * jt)) (h10 : InW 1 (2 * jt)) (h01 : InW 0 (2 * jt + 1)) (h11 : InW 1 (2 * jt + 1)) (hc : InC jt)
    (tl : List (View.Piece (Elt F) S256x6144 .fp8e4m3)) : FVec F S32x256 .f32 :=
  wProd (wHalf xd0 xd1 (ldW m hm x 0 (2 * jt) h00) (ldW m hm x 1 (2 * jt) h10)) (wHalf xd0 xd1 (ldW m hm x 0 (2 * jt + 1) h01) (ldW m hm x 1 (2 * jt + 1) h11))
    (m6.view.readCov (pieceW m hm x 1 (2 * jt + 1) h11 :: pieceW m hm x 0 (2 * jt + 1) h01 :: pieceW m hm x 1 (2 * jt) h10 :: pieceW m hm x 0 (2 * jt) h00 :: tl)
      (Rect.unit (s := S256x6144) ![0, 256 * jt] S256x256.size hc).toLoadRect)

theorem prodRun_eq (m : Memref sig .tc .vmem S256x6144 .bf16) (hm : m.IsWhole) (x : Vec F S256x6144 .bf16) (m6 : Memref sig .tc .vmem S256x6144 .fp8e4m3)
    (xd0 xd1 : Vec F S16x128 .bf16) (jt : ℕ) (h00 : InW 0 (2 * jt)) (h10 : InW 1 (2 * jt)) (h01 : InW 0 (2 * jt + 1)) (h11 : InW 1 (2 * jt + 1)) (hc : InC jt)
    (tl : List (View.Piece (Elt F) S256x6144 .fp8e4m3)) :
    prodRun m hm x m6 xd0 xd1 jt h00 h10 h01 h11 hc tl = prodCol xd0 xd1 x jt := by
  unfold prodRun prodCol
  rw [show m6.view.readCov (pieceW m hm x 1 (2 * jt + 1) h11 :: pieceW m hm x 0 (2 * jt + 1) h01 :: pieceW m hm x 1 (2 * jt) h10 :: pieceW m hm x 0 (2 * jt) h00 :: tl)
      (Rect.unit (s := S256x6144) ![0, 256 * jt] S256x256.size hc).toLoadRect = codesCol x jt from ?_]
  · unfold ldW
    rw [load_blkW, load_blkW, load_blkW, load_blkW]
  · rw [View.readCov_eq_canon']
    funext z
    have hb : 256 * jt + 256 ≤ 6144 := hc 1
    have z0 : (z 0).val < 256 := (z 0).isLt
    have z1 : (z 1).val < 256 := (z 1).isLt
    have e : (Rect.unit (s := S256x6144) ![0, 256 * jt] S256x256.size hc).toLoadRect.idx z = iW (z 0).val (256 * jt + (z 1).val) := by
      refine idx2_ext ?_ ?_
      · show 0 + 1 * (z 0).val = (z 0).val % 256
        omega
      · show 256 * jt + 1 * (z 1).val = (256 * jt + (z 1).val) % 6144
        omega
    rw [e, canon_colW, canon_colW]
    show (if (256 * jt + (z 1).val) % 6144 / 128 = 2 * jt + 1 then _ else if (256 * jt + (z 1).val) % 6144 / 128 = 2 * jt then _ else _) = codesCol x jt z
    by_cases h : (256 * jt + (z 1).val) % 6144 / 128 = 2 * jt + 1
    · rw [if_pos h]; rfl
    · rw [if_neg h, if_pos (by omega)]; rfl

/-- The pieces of the first `n` products over `base`, beside the codes' pieces `lw`: `ld` is what the run loads of the accumulator, from the
    pieces before. -/
def ChainY (m : Memref sig .tc .vmem S256x6144 .bf16) (hm : m.IsWhole) (x : Vec F S256x6144 .bf16) (m6 : Memref sig .tc .vmem S256x6144 .fp8e4m3)
    (xd0 xd1 : Vec F S16x128 .bf16) (base : List (View.Piece (Elt F) S16x6144 .f32))
    (ld : (o : Fin 2 → ℕ) → (∀ a, o a + S16x128.size a ≤ S16x6144.size a) → List (View.Piece (Elt F) S16x6144 .f32) → Vec F S16x128 .f32) :
    ℕ → List (View.Piece (Elt F) S256x6144 .fp8e4m3) → List (View.Piece (Elt F) S16x6144 .f32) → Prop
  | 0, _, L => L = base
  | n + 1, lw, L => ∃ (hl : InY (2 * n)) (hr : InY (2 * n + 1)) (h00 : InW 0 (2 * n)) (h10 : InW 1 (2 * n)) (h01 : InW 0 (2 * n + 1)) (h11 : InW 1 (2 * n + 1)) (hc : InC n)
      (tl : List (View.Piece (Elt F) S256x6144 .fp8e4m3)) (mid rest : List (View.Piece (Elt F) S16x6144 .f32)) (wr wl : Vec F S16x128 .f32),
      L = ⟨Rect.unit ![0, 128 * (2 * n + 1)] S16x128.size hr, wr⟩ :: mid
      ∧ mid = ⟨Rect.unit ![0, 128 * (2 * n)] S16x128.size hl, wl⟩ :: rest
      ∧ lw = pieceW m hm x 1 (2 * n + 1) h11 :: pieceW m hm x 0 (2 * n + 1) h01 :: pieceW m hm x 1 (2 * n) h10 :: pieceW m hm x 0 (2 * n) h00 :: tl
      ∧ wr = accR (ld ![0, 128 * (2 * n + 1)] hr mid) (prodRun m hm x m6 xd0 xd1 n h00 h10 h01 h11 hc tl)
      ∧ wl = accL (ld ![0, 128 * (2 * n)] hl rest) (prodRun m hm x m6 xd0 xd1 n h00 h10 h01 h11 hc tl)
      ∧ ChainY m hm x m6 xd0 xd1 base ld n tl rest

theorem ChainY.canon_eq {m : Memref sig .tc .vmem S256x6144 .bf16} {hm : m.IsWhole} {x : Vec F S256x6144 .bf16} {m6 : Memref sig .tc .vmem S256x6144 .fp8e4m3}
    {xd0 xd1 : Vec F S16x128 .bf16} {base : List (View.Piece (Elt F) S16x6144 .f32)}
    {ld : (o : Fin 2 → ℕ) → (∀ a, o a + S16x128.size a ≤ S16x6144.size a) → List (View.Piece (Elt F) S16x6144 .f32) → Vec F S16x128 .f32}
    {a : Vec F S16x6144 .f32}
    (hld : ∀ (j : ℕ) (h : InY j) (L : List (View.Piece (Elt F) S16x6144 .f32)), (∀ y : S16x6144.Idx, j ≤ (y 1).val / 128 → View.canon L y = View.canon base y) →
      ld ![0, 128 * j] h L = blkY a j) :
    ∀ {n : ℕ} {lw : List (View.Piece (Elt F) S256x6144 .fp8e4m3)} {L : List (View.Piece (Elt F) S16x6144 .f32)}, ChainY m hm x m6 xd0 xd1 base ld n lw L → ∀ y : S16x6144.Idx,
      View.canon L y = if (y 1).val / 128 < 2 * n then accStep xd0 xd1 x a y else View.canon base y
  | 0, _, L, h, y => by rw [if_neg (by omega), show L = base from h]
  | n + 1, _, L, h, y => by
    obtain ⟨hl, hr, h00, h10, h01, h11, hc, tl, mid, rest, wr, wl, hL, hmid, -, rfl, rfl, hc'⟩ := h
    have ih := hc'.canon_eq hld
    have y0 := idx2_lt0 y
    have y1 := idx2_lt1 y
    have e1 : ld ![0, 128 * (2 * n)] hl rest = blkY a (2 * n) := hld _ _ _ fun z hz => by rw [ih z, if_neg (by omega)]
    have cmid : ∀ z : S16x6144.Idx, View.canon mid z = if (z 1).val / 128 < 2 * n + 1 then accStep xd0 xd1 x a z else View.canon base z := by
      intro z
      have z0 := idx2_lt0 z
      have z1 := idx2_lt1 z
      rw [hmid]
      by_cases hz : (z 1).val / 128 = 2 * n
      · rw [canon_hit _ _ _ _ _ z (iR (z 0).val (z 1).val) (by simp only [ix2_0]; omega) (by simp only [ix2_1]; omega), if_pos (by omega), e1, prodRun_eq]
        unfold accStep accBlk
        rw [hz, if_pos (by omega), show 2 * n / 2 = n by omega]
      · rw [canon_miss1 _ _ _ _ _ _ (by omega), ih z]
        by_cases h2 : (z 1).val / 128 < 2 * n
        · rw [if_pos h2, if_pos (by omega)]
        · rw [if_neg h2, if_neg (by omega)]
    have e2 : ld ![0, 128 * (2 * n + 1)] hr mid = blkY a (2 * n + 1) := hld _ _ _ fun z hz => by rw [cmid z, if_neg (by omega)]
    rw [hL]
    by_cases hz : (y 1).val / 128 = 2 * n + 1
    · rw [canon_hit _ _ _ _ _ y (iR (y 0).val (y 1).val) (by simp only [ix2_0]; omega) (by simp only [ix2_1]; omega), if_pos (by omega), e2, prodRun_eq]
      unfold accStep accBlk
      rw [hz, if_neg (by omega), show (2 * n + 1) / 2 = n by omega]
    · rw [canon_miss1 _ _ _ _ _ _ (by omega), cmid y]
      by_cases h2 : (y 1).val / 128 < 2 * n + 1
      · rw [if_pos h2, if_pos (by omega)]
      · rw [if_neg h2, if_neg (by omega)]

theorem ChainY.cover {m : Memref sig .tc .vmem S256x6144 .bf16} {hm : m.IsWhole} {x : Vec F S256x6144 .bf16} {m6 : Memref sig .tc .vmem S256x6144 .fp8e4m3}
    {xd0 xd1 : Vec F S16x128 .bf16} {base : List (View.Piece (Elt F) S16x6144 .f32)}
    {ld : (o : Fin 2 → ℕ) → (∀ a, o a + S16x128.size a ≤ S16x6144.size a) → List (View.Piece (Elt F) S16x6144 .f32) → Vec F S16x128 .f32} :
    ∀ {n : ℕ} {lw : List (View.Piece (Elt F) S256x6144 .fp8e4m3)} {L : List (View.Piece (Elt F) S16x6144 .f32)}, ChainY m hm x m6 xd0 xd1 base ld n lw L → ∀ y : S16x6144.Idx, (y 1).val / 128 < 2 * n → ∃ p ∈ L, y ∈ p.1.set
  | 0, _, _, _, _, hy => absurd hy (by omega)
  | n + 1, _, L, h, y, hy => by
    obtain ⟨hl, hr, h00, h10, h01, h11, hc, tl, mid, rest, wr, wl, rfl, rfl, -, -, -, hc'⟩ := h
    have y0 := idx2_lt0 y
    by_cases e : (y 1).val / 128 = 2 * n + 1
    · refine ⟨_, List.mem_cons_self, ?_⟩
      exact mem_unit2 _ _ hr y (by omega) (by omega) (by omega) (by omega)
    · by_cases e' : (y 1).val / 128 = 2 * n
      · refine ⟨_, List.mem_cons_of_mem _ List.mem_cons_self, ?_⟩
        exact mem_unit2 _ _ hl y (by omega) (by omega) (by omega) (by omega)
      · obtain ⟨p, hp, hy'⟩ := hc'.cover y (by omega)
        exact ⟨p, List.mem_cons_of_mem _ (List.mem_cons_of_mem _ hp), hy'⟩

/-! ## The activation's buffers: 32 pieces, one to a block -/

abbrev InX (j : ℕ) : Prop := ∀ a, (![0, 128 * j] : Fin 2 → ℕ) a + S16x128.size a ≤ S16x4096.size a

theorem inX (j : ℕ) (hj : j < 32) : InX j := fun a => match a with
  | ⟨0, _⟩ => by show 0 + 16 ≤ 16; omega
  | ⟨1, _⟩ => by show 128 * j + 128 ≤ 4096; omega

/-- The load of a block of the activation. -/
abbrev ldX (m : Memref sig .tc .vmem S16x4096 .bf16) (hm : m.IsWhole) (x : Vec F S16x4096 .bf16) (j : ℕ) (h : InX j) : Vec F S16x128 .bf16 :=
  View.readAt (Elt F) m.view (Rect.unit (s := S16x4096) ![0, 128 * j] S16x128.size h).toLoadRect (hm.unread x)

/-- The pieces of the first `n` blocks, each `g` of its block. -/
def ChainX {e : EltTy} (g : Vec F S16x128 .bf16 → Vec F S16x128 e) (m : Memref sig .tc .vmem S16x4096 .bf16) (hm : m.IsWhole) (x : Vec F S16x4096 .bf16) :
    ℕ → List (View.Piece (Elt F) S16x4096 e) → Prop
  | 0, L => L = []
  | n + 1, L => ∃ (h : InX n) (rest : List (View.Piece (Elt F) S16x4096 e)),
      L = ⟨Rect.unit ![0, 128 * n] S16x128.size h, g (ldX m hm x n h)⟩ :: rest ∧ ChainX g m hm x n rest

theorem ChainX.canon_eq {e : EltTy} {g : Vec F S16x128 .bf16 → Vec F S16x128 e} {m : Memref sig .tc .vmem S16x4096 .bf16} {hm : m.IsWhole}
    {x : Vec F S16x4096 .bf16} : ∀ {n : ℕ} {L : List (View.Piece (Elt F) S16x4096 e)}, ChainX g m hm x n L → ∀ y : S16x4096.Idx, (y 1).val / 128 < n →
      View.canon L y = g (blkX x ((y 1).val / 128)) (iR (y 0).val (y 1).val)
  | 0, _, _, _, hy => absurd hy (Nat.not_lt_zero _)
  | n + 1, L, h, y, hy => by
    obtain ⟨hb, rest, rfl, hr⟩ := h
    have y0 := idx2_lt0 y
    have y1 := idx2_lt1 y
    by_cases e : (y 1).val / 128 = n
    · rw [canon_hit _ _ _ _ _ y (iR (y 0).val (y 1).val) (by simp only [ix2_0]; omega) (by simp only [ix2_1]; omega)]
      unfold ldX
      rw [load_blkX m hm x n _ rfl, e]
    · rw [canon_miss1 _ _ _ _ _ _ (by omega)]
      exact hr.canon_eq y (by omega)

theorem ChainX.cover {e : EltTy} {g : Vec F S16x128 .bf16 → Vec F S16x128 e} {m : Memref sig .tc .vmem S16x4096 .bf16} {hm : m.IsWhole}
    {x : Vec F S16x4096 .bf16} : ∀ {n : ℕ} {L : List (View.Piece (Elt F) S16x4096 e)}, ChainX g m hm x n L → ∀ y : S16x4096.Idx, (y 1).val / 128 < n →
      ∃ p ∈ L, y ∈ p.1.set
  | 0, _, _, _, hy => absurd hy (Nat.not_lt_zero _)
  | n + 1, L, h, y, hy => by
    obtain ⟨hb, rest, rfl, hr⟩ := h
    have y0 := idx2_lt0 y
    by_cases e : (y 1).val / 128 = n
    · refine ⟨_, List.mem_cons_self, ?_⟩
      exact mem_unit2 _ _ hb y (by omega) (by omega) (by omega) (by omega)
    · obtain ⟨p, hp, hy'⟩ := hr.cover y (by omega)
      exact ⟨p, List.mem_cons_of_mem _ hp, hy'⟩

end Cert.KernelIdeal.Hand

end
-- ==== Proof.ChainsA.lean ====
/-
  The pieces that the body's runs leave at the first point, as the lists of `Chains`.
-/
module

public import proofs.«01_k».proof.Proof.RunA
public import proofs.«01_k».proof.Proof.Chains

@[expose] public section

set_option maxRecDepth 16384

noncomputable section

namespace Cert.KernelIdeal.Hand

open Idealize.ShloMosaic Idealize.ShloMosaic.TcCoe
open Cert.KernelIdeal.Gen

variable {F : FTy → Type} [FloatOps F]

section

variable (c : Dev nD) (i : grid0.Coords) (arg1 : Memref sig .tc .vmem S16x4096 .bf16) (harg1 : arg1.IsWhole) (arg2 : Memref sig .tc .vmem S256x6144 .bf16) (harg2 : arg2.IsWhole) (arg3 : Memref sig .tc .vmem S16x6144 .bf16) (harg3 : arg3.IsWhole) (arg4 : Memref sig .tc .vmem S16x4096 .fp8e4m3) (harg4 : arg4.IsWhole) (arg5 : Memref sig .tc .vmem S16x32 .i8) (harg5 : arg5.IsWhole) (arg6 : Memref sig .tc .vmem S256x6144 .fp8e4m3) (harg6 : arg6.IsWhole) (arg7 : Memref sig .tc .vmem S32x48 .i32) (harg7 : arg7.IsWhole) (arg8 : Memref sig .tc .vmem S16x4096 .bf16) (harg8 : arg8.IsWhole) (arg9 : Memref sig .tc .vmem S16x6144 .f32) (harg9 : arg9.IsWhole) (hc0 : cond0_0 i) (hc1 : ¬cond0_1 i)
    (x0 : Vec F S16x4096 .bf16) (x1 : Vec F S256x6144 .bf16) (y6 : Vec F S32x48 .i32)

set_option maxHeartbeats 8000000 in
theorem runA_L5 : ChainW arg2 harg2 x1 48 (runA c i arg1 harg1 arg2 harg2 arg3 harg3 arg4 harg4 arg5 harg5 arg6 harg6 arg7 harg7 arg8 harg8 arg9 harg9 hc0 hc1 x0 x1 y6).2.2.1 := by
  unfold runA
  dsimp only
  iterate 48 refine ⟨_, _, _, rfl, ?_⟩
  rfl

set_option maxHeartbeats 8000000 in
theorem runA_L3 : ChainX xCodes arg1 harg1 x0 32 (runA c i arg1 harg1 arg2 harg2 arg3 harg3 arg4 harg4 arg5 harg5 arg6 harg6 arg7 harg7 arg8 harg8 arg9 harg9 hc0 hc1 x0 x1 y6).1 := by
  unfold runA
  dsimp only
  iterate 32 refine ⟨_, _, rfl, ?_⟩
  rfl

set_option maxHeartbeats 8000000 in
theorem runA_LS0 : ChainX xScaled arg1 harg1 x0 32 (runA c i arg1 harg1 arg2 harg2 arg3 harg3 arg4 harg4 arg5 harg5 arg6 harg6 arg7 harg7 arg8 harg8 arg9 harg9 hc0 hc1 x0 x1 y6).2.2.2.2.1 := by
  unfold runA
  dsimp only
  iterate 32 refine ⟨_, _, rfl, ?_⟩
  rfl

set_option maxHeartbeats 8000000 in
theorem runA_L4 : (runA c i arg1 harg1 arg2 harg2 arg3 harg3 arg4 harg4 arg5 harg5 arg6 harg6 arg7 harg7 arg8 harg8 arg9 harg9 hc0 hc1 x0 x1 y6).2.1
    = [⟨Rect.unit ![0, 0] S16x32.size inb_S16x32_S16x32_0_0, xScaleAll fun j => ldX arg1 harg1 x0 j.val (inX j.val j.isLt)⟩] := by
  unfold runA
  dsimp only
  rfl

/-- The loads of the scaled activation, from the pieces just stored. -/
abbrev ldA (m : Memref sig .tc .vmem S16x4096 .bf16) (i : grid0.Coords) (L : List (View.Piece (Elt F) S16x4096 .bf16)) (k : BitVec 32)
    (h : ∀ a, k0_off1 i k a + S16x128.size a ≤ S16x4096.size a) : Vec F S16x128 .bf16 :=
  View.readAt (Elt F) m.view (Rect.unit (s := S16x4096) (k0_off1 i k) S16x128.size h).toLoadRect (m.view.writes (Elt F) m.view.junk L)

set_option maxHeartbeats 8000000 in
theorem runA_LS1 : ChainY arg2 harg2 x1 arg6
    (ldA arg8 i (runA c i arg1 harg1 arg2 harg2 arg3 harg3 arg4 harg4 arg5 harg5 arg6 harg6 arg7 harg7 arg8 harg8 arg9 harg9 hc0 hc1 x0 x1 y6).2.2.2.2.1 0#32 (k0_off1_inb i 0))
    (ldA arg8 i (runA c i arg1 harg1 arg2 harg2 arg3 harg3 arg4 harg4 arg5 harg5 arg6 harg6 arg7 harg7 arg8 harg8 arg9 harg9 hc0 hc1 x0 x1 y6).2.2.2.2.1 128#32 (k0_off1_inb i 1))
    [⟨Rect.unit ![0, 0] S16x6144.size inb_S16x6144_S16x6144_0_0, k0_pay337⟩]
    (fun o h L => arg9.view.readCov L (Rect.unit (s := S16x6144) o S16x128.size h).toLoadRect) 24
    (runA c i arg1 harg1 arg2 harg2 arg3 harg3 arg4 harg4 arg5 harg5 arg6 harg6 arg7 harg7 arg8 harg8 arg9 harg9 hc0 hc1 x0 x1 y6).2.2.1
    (runA c i arg1 harg1 arg2 harg2 arg3 harg3 arg4 harg4 arg5 harg5 arg6 harg6 arg7 harg7 arg8 harg8 arg9 harg9 hc0 hc1 x0 x1 y6).2.2.2.2.2.1 := by
  unfold runA
  dsimp only
  iterate 24
    refine ⟨_, _, _, _, _, _, inC _ (by decide), _, _, _, _, _, rfl, rfl, rfl, ?_, ?_, ?_⟩
    · rfl
    · rfl
  rfl

set_option maxHeartbeats 8000000 in
theorem runA_L6 : (runA c i arg1 harg1 arg2 harg2 arg3 harg3 arg4 harg4 arg5 harg5 arg6 harg6 arg7 harg7 arg8 harg8 arg9 harg9 hc0 hc1 x0 x1 y6).2.2.2.1
    = [⟨Rect.unit (k0_off2 i 1#32) S1x48.size (k0_off2_inb i 1), wScaleRow fun j => ldW arg2 harg2 x1 1 j.val (inW 1 j.val (by omega) j.isLt)⟩,
      ⟨Rect.unit (k0_off2 i 0#32) S1x48.size (k0_off2_inb i 0), wScaleRow fun j => ldW arg2 harg2 x1 0 j.val (inW 0 j.val (by omega) j.isLt)⟩] := by
  unfold runA
  dsimp only
  rfl

end

end Cert.KernelIdeal.Hand

end
-- ==== Proof.RunB.lean ====
/-
  The run of the kernel's body at the middle points: one block of the weight is quantised and accumulated.
-/
module

public import proofs.«01_k».proof.Proof.RunA

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 9656000 in
/-- What the body leaves in each buffer it stores into, as the pieces stored (the last first), with the proof that it runs: from the two
    inputs' staging buffers, the scale buffer of the weight at the contents found, every other buffer it stores into at anything, and the
    scratch as the point before left it, to the same inputs and each of those buffers with its pieces written. -/
noncomputable def runB (c : Dev nD) (i : grid0.Coords) (arg1 : Memref sig .tc .vmem S16x4096 .bf16) (harg1 : arg1.IsWhole) (arg2 : Memref sig .tc .vmem S256x6144 .bf16) (harg2 : arg2.IsWhole) (arg3 : Memref sig .tc .vmem S16x6144 .bf16) (harg3 : arg3.IsWhole) (arg4 : Memref sig .tc .vmem S16x4096 .fp8e4m3) (harg4 : arg4.IsWhole) (arg5 : Memref sig .tc .vmem S16x32 .i8) (harg5 : arg5.IsWhole) (arg6 : Memref sig .tc .vmem S256x6144 .fp8e4m3) (harg6 : arg6.IsWhole) (arg7 : Memref sig .tc .vmem S32x48 .i32) (harg7 : arg7.IsWhole) (arg8 : Memref sig .tc .vmem S16x4096 .bf16) (harg8 : arg8.IsWhole) (arg9 : Memref sig .tc .vmem S16x6144 .f32) (harg9 : arg9.IsWhole) (hc0 : ¬cond0_0 i) (hc1 : ¬cond0_1 i)
    (x0 : Vec F S16x4096 .bf16) (x1 : Vec F S256x6144 .bf16) (y6 : Vec F S32x48 .i32) (xs0 : Vec F S16x4096 .bf16) (xs1 : Vec F S16x6144 .f32) :
    Σ' (L5 : List (View.Piece (Elt F) S256x6144 .fp8e4m3)), Σ' (L6 : List (View.Piece (Elt F) S32x48 .i32)), { LS1 : List (View.Piece (Elt F) S16x6144 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg6 fullShare d) ∗ owns (c : Thread nD τ) arg7 fullShare y6 ∗ owns (c : Thread nD τ) arg8 fullShare xs0 ∗ owns (c : Thread nD τ) arg9 fullShare xs1
            ∗ (iprop(owns (c : Thread nD τ) arg1 fullShare x0 ∗ owns (c : Thread nD τ) arg2 fullShare x1 ∗ (∃ d, owns (c : Thread nD τ) arg3 fullShare d) ∗ (∃ f, arg6.view.loc (c : Thread nD τ) ↦[arg6.view.set]{fullShare} arg6.view.writes (Elt F) f L5) ∗ (arg7.view.loc (c : Thread nD τ) ↦[arg7.view.set]{fullShare} arg7.view.writes (Elt F) (harg7.unread y6) L6) ∗ owns (c : Thread nD τ) arg8 fullShare xs0 ∗ (∃ f, arg9.view.loc (c : Thread nD τ) ↦[arg9.view.set]{fullShare} arg9.view.writes (Elt F) f LS1)) -∗ K ⟨⟩))
          ⊢ wp frame (wpE (defs₀ (F := F)) Variants.none c none) E (cc0_rollout_fp8_linear i arg1 harg1 arg2 harg2 arg3 harg3 arg4 harg4 arg5 harg5 arg6 harg6 arg7 harg7 arg8 harg8 arg9 harg9) K } := by
  refine ⟨?_, ?_, ?_, fun E K => ?run⟩
  case run =>
    simp only [cc0_rollout_fp8_linear_eq_skeleton]; unfold cc0_rollout_fp8_linear_skel
    simp only [k0_part303_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part304_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part305_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part306_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part271_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton, k0_part284_eq_skeleton, k0_part285_eq_skeleton, k0_part286_eq_skeleton, k0_part287_eq_skeleton, k0_part288_eq_skeleton, k0_part289_eq_skeleton, k0_part290_eq_skeleton, k0_part291_eq_skeleton, k0_part292_eq_skeleton, k0_part293_eq_skeleton, k0_part294_eq_skeleton, k0_part295_eq_skeleton, k0_part296_eq_skeleton, k0_part297_eq_skeleton, k0_part298_eq_skeleton, k0_part299_eq_skeleton, k0_part300_eq_skeleton, k0_part301_eq_skeleton, k0_part302_eq_skeleton]
    unfold owns
    iintro ⟨⟨%f0, %hf0, H0⟩, ⟨%f1, %hf1, H1⟩, ⟨%d2, %f2, -, H2⟩, ⟨%d5, %f5, -, H5⟩, ⟨%f6, %hf6, H6⟩, ⟨%fs0, %hfs0, HS0⟩, ⟨%fs1, %hfs1, HS1⟩, Hk⟩
    obtain rfl := harg1.eq_unread hf0; obtain rfl := harg2.eq_unread hf1; obtain rfl := harg7.eq_unread hf6; obtain rfl := harg8.eq_unread hfs0; obtain rfl := harg9.eq_unread hfs1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _, _; isplitr; swap; · iexact H2
      ipureintro; rfl
    isplitl [H5]; · iexists _; iexact H5
    isplitl [H6]; · iexact H6
    isplitl [HS0]
    · iexists _; isplitr; · ipureintro; exact harg8.read_unread _
      iexact HS0
    iexists _; iexact HS1

end Cert.KernelIdeal.Hand

end
-- ==== Proof.ChainsB.lean ====
/-
  The pieces that the body's runs leave at the points after the first, as the lists of `Chains`.
-/
module

public import proofs.«01_k».proof.Proof.RunB
public import proofs.«01_k».proof.Proof.Chains

@[expose] public section

set_option maxRecDepth 16384

noncomputable section

namespace Cert.KernelIdeal.Hand

open Idealize.ShloMosaic Idealize.ShloMosaic.TcCoe
open Cert.KernelIdeal.Gen

variable {F : FTy → Type} [FloatOps F]

section

variable (c : Dev nD) (i : grid0.Coords) (arg1 : Memref sig .tc .vmem S16x4096 .bf16) (harg1 : arg1.IsWhole) (arg2 : Memref sig .tc .vmem S256x6144 .bf16) (harg2 : arg2.IsWhole) (arg3 : Memref sig .tc .vmem S16x6144 .bf16) (harg3 : arg3.IsWhole) (arg4 : Memref sig .tc .vmem S16x4096 .fp8e4m3) (harg4 : arg4.IsWhole) (arg5 : Memref sig .tc .vmem S16x32 .i8) (harg5 : arg5.IsWhole) (arg6 : Memref sig .tc .vmem S256x6144 .fp8e4m3) (harg6 : arg6.IsWhole) (arg7 : Memref sig .tc .vmem S32x48 .i32) (harg7 : arg7.IsWhole) (arg8 : Memref sig .tc .vmem S16x4096 .bf16) (harg8 : arg8.IsWhole) (arg9 : Memref sig .tc .vmem S16x6144 .f32) (harg9 : arg9.IsWhole) (hc0 : ¬cond0_0 i) (hc1 : ¬cond0_1 i)
    (x0 : Vec F S16x4096 .bf16) (x1 : Vec F S256x6144 .bf16) (y6 : Vec F S32x48 .i32) (xs0 : Vec F S16x4096 .bf16) (xs1 : Vec F S16x6144 .f32)

set_option maxHeartbeats 8000000 in
theorem runB_L5 : ChainW arg2 harg2 x1 48 (runB c i arg1 harg1 arg2 harg2 arg3 harg3 arg4 harg4 arg5 harg5 arg6 harg6 arg7 harg7 arg8 harg8 arg9 harg9 hc0 hc1 x0 x1 y6 xs0 xs1).1 := by
  unfold runB
  dsimp only
  iterate 48 refine ⟨_, _, _, rfl, ?_⟩
  rfl

/-- The loads of the scaled activation. -/
abbrev ldB (m : Memref sig .tc .vmem S16x4096 .bf16) (hm : m.IsWhole) (i : grid0.Coords) (xs0 : Vec F S16x4096 .bf16) (k : BitVec 32)
    (h : ∀ a, k0_off1 i k a + S16x128.size a ≤ S16x4096.size a) : Vec F S16x128 .bf16 :=
  View.readAt (Elt F) m.view (Rect.unit (s := S16x4096) (k0_off1 i k) S16x128.size h).toLoadRect (hm.unread xs0)

set_option maxHeartbeats 8000000 in
theorem runB_LS1 : ChainY arg2 harg2 x1 arg6 (ldB arg8 harg8 i xs0 0#32 (k0_off1_inb i 0)) (ldB arg8 harg8 i xs0 128#32 (k0_off1_inb i 1)) []
    (fun o h _ => View.readAt (Elt F) arg9.view (Rect.unit (s := S16x6144) o S16x128.size h).toLoadRect (harg9.unread xs1)) 24
    (runB c i arg1 harg1 arg2 harg2 arg3 harg3 arg4 harg4 arg5 harg5 arg6 harg6 arg7 harg7 arg8 harg8 arg9 harg9 hc0 hc1 x0 x1 y6 xs0 xs1).1
    (runB c i arg1 harg1 arg2 harg2 arg3 harg3 arg4 harg4 arg5 harg5 arg6 harg6 arg7 harg7 arg8 harg8 arg9 harg9 hc0 hc1 x0 x1 y6 xs0 xs1).2.2.1 := by
  unfold runB
  dsimp only
  iterate 24
    refine ⟨_, _, _, _, _, _, inC _ (by decide), _, _, _, _, _, rfl, rfl, rfl, ?_, ?_, ?_⟩
    · rfl
    · rfl
  rfl

set_option maxHeartbeats 8000000 in
theorem runB_L6 : (runB c i arg1 harg1 arg2 harg2 arg3 harg3 arg4 harg4 arg5 harg5 arg6 harg6 arg7 harg7 arg8 harg8 arg9 harg9 hc0 hc1 x0 x1 y6 xs0 xs1).2.1
    = [⟨Rect.unit (k0_off2 i 1#32) S1x48.size (k0_off2_inb i 1), wScaleRow fun j => ldW arg2 harg2 x1 1 j.val (inW 1 j.val (by omega) j.isLt)⟩,
      ⟨Rect.unit (k0_off2 i 0#32) S1x48.size (k0_off2_inb i 0), wScaleRow fun j => ldW arg2 harg2 x1 0 j.val (inW 0 j.val (by omega) j.isLt)⟩] := by
  unfold runB
  dsimp only
  rfl

end

end Cert.KernelIdeal.Hand

end
-- ==== Proof.RunC.lean ====
/-
  The run of the kernel's body at the last point: the last block is accumulated and the result stored.
-/
module

public import proofs.«01_k».proof.Proof.RunB

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 9680000 in
/-- What the body leaves in each buffer it stores into, as the pieces stored (the last first), with the proof that it runs: from the two
    inputs' staging buffers, the scale buffer of the weight at the contents found, every other buffer it stores into at anything, and the
    scratch as the point before left it, to the same inputs and each of those buffers with its pieces written. -/
noncomputable def runC (c : Dev nD) (i : grid0.Coords) (arg1 : Memref sig .tc .vmem S16x4096 .bf16) (harg1 : arg1.IsWhole) (arg2 : Memref sig .tc .vmem S256x6144 .bf16) (harg2 : arg2.IsWhole) (arg3 : Memref sig .tc .vmem S16x6144 .bf16) (harg3 : arg3.IsWhole) (arg4 : Memref sig .tc .vmem S16x4096 .fp8e4m3) (harg4 : arg4.IsWhole) (arg5 : Memref sig .tc .vmem S16x32 .i8) (harg5 : arg5.IsWhole) (arg6 : Memref sig .tc .vmem S256x6144 .fp8e4m3) (harg6 : arg6.IsWhole) (arg7 : Memref sig .tc .vmem S32x48 .i32) (harg7 : arg7.IsWhole) (arg8 : Memref sig .tc .vmem S16x4096 .bf16) (harg8 : arg8.IsWhole) (arg9 : Memref sig .tc .vmem S16x6144 .f32) (harg9 : arg9.IsWhole) (hc0 : ¬cond0_0 i) (hc1 : cond0_1 i)
    (x0 : Vec F S16x4096 .bf16) (x1 : Vec F S256x6144 .bf16) (y6 : Vec F S32x48 .i32) (xs0 : Vec F S16x4096 .bf16) (xs1 : Vec F S16x6144 .f32) :
    Σ' (L2 : List (View.Piece (Elt F) S16x6144 .bf16)), Σ' (L5 : List (View.Piece (Elt F) S256x6144 .fp8e4m3)), Σ' (L6 : List (View.Piece (Elt F) S32x48 .i32)), { LS1 : List (View.Piece (Elt F) S16x6144 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg6 fullShare d) ∗ owns (c : Thread nD τ) arg7 fullShare y6 ∗ owns (c : Thread nD τ) arg8 fullShare xs0 ∗ owns (c : Thread nD τ) arg9 fullShare xs1
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg6.view.loc (c : Thread nD τ) ↦[arg6.view.set]{fullShare} arg6.view.writes (Elt F) f L5) ∗ (arg7.view.loc (c : Thread nD τ) ↦[arg7.view.set]{fullShare} arg7.view.writes (Elt F) (harg7.unread y6) L6) ∗ owns (c : Thread nD τ) arg8 fullShare xs0 ∗ (∃ f, arg9.view.loc (c : Thread nD τ) ↦[arg9.view.set]{fullShare} arg9.view.writes (Elt F) f LS1)) -∗ K ⟨⟩))
          ⊢ wp frame (wpE (defs₀ (F := F)) Variants.none c none) E (cc0_rollout_fp8_linear i arg1 harg1 arg2 harg2 arg3 harg3 arg4 harg4 arg5 harg5 arg6 harg6 arg7 harg7 arg8 harg8 arg9 harg9) K } := by
  refine ⟨?_, ?_, ?_, ?_, fun E K => ?run⟩
  case run =>
    simp only [cc0_rollout_fp8_linear_eq_skeleton]; unfold cc0_rollout_fp8_linear_skel
    simp only [k0_part303_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part304_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part305_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part306_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part271_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton, k0_part284_eq_skeleton, k0_part285_eq_skeleton, k0_part286_eq_skeleton, k0_part287_eq_skeleton, k0_part288_eq_skeleton, k0_part289_eq_skeleton, k0_part290_eq_skeleton, k0_part291_eq_skeleton, k0_part292_eq_skeleton, k0_part293_eq_skeleton, k0_part294_eq_skeleton, k0_part295_eq_skeleton, k0_part296_eq_skeleton, k0_part297_eq_skeleton, k0_part298_eq_skeleton, k0_part299_eq_skeleton, k0_part300_eq_skeleton, k0_part301_eq_skeleton, k0_part302_eq_skeleton]
    unfold owns
    iintro ⟨⟨%f0, %hf0, H0⟩, ⟨%f1, %hf1, H1⟩, ⟨%d2, %f2, -, H2⟩, ⟨%d5, %f5, -, H5⟩, ⟨%f6, %hf6, H6⟩, ⟨%fs0, %hfs0, HS0⟩, ⟨%fs1, %hfs1, HS1⟩, Hk⟩
    obtain rfl := harg1.eq_unread hf0; obtain rfl := harg2.eq_unread hf1; obtain rfl := harg7.eq_unread hf6; obtain rfl := harg8.eq_unread hfs0; obtain rfl := harg9.eq_unread hfs1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H5]; · iexists _; iexact H5
    isplitl [H6]; · iexact H6
    isplitl [HS0]
    · iexists _; isplitr; · ipureintro; exact harg8.read_unread _
      iexact HS0
    iexists _; iexact HS1

end Cert.KernelIdeal.Hand

end
-- ==== Proof.ChainsC.lean ====
/-
  The pieces that the body's runs leave at the last point, as the lists of `Chains`.
-/
module

public import proofs.«01_k».proof.Proof.RunC
public import proofs.«01_k».proof.Proof.ChainsB

@[expose] public section

set_option maxRecDepth 16384

noncomputable section

namespace Cert.KernelIdeal.Hand

open Idealize.ShloMosaic Idealize.ShloMosaic.TcCoe
open Cert.KernelIdeal.Gen

variable {F : FTy → Type} [FloatOps F]

section

variable (c : Dev nD) (i : grid0.Coords) (arg1 : Memref sig .tc .vmem S16x4096 .bf16) (harg1 : arg1.IsWhole) (arg2 : Memref sig .tc .vmem S256x6144 .bf16) (harg2 : arg2.IsWhole) (arg3 : Memref sig .tc .vmem S16x6144 .bf16) (harg3 : arg3.IsWhole) (arg4 : Memref sig .tc .vmem S16x4096 .fp8e4m3) (harg4 : arg4.IsWhole) (arg5 : Memref sig .tc .vmem S16x32 .i8) (harg5 : arg5.IsWhole) (arg6 : Memref sig .tc .vmem S256x6144 .fp8e4m3) (harg6 : arg6.IsWhole) (arg7 : Memref sig .tc .vmem S32x48 .i32) (harg7 : arg7.IsWhole) (arg8 : Memref sig .tc .vmem S16x4096 .bf16) (harg8 : arg8.IsWhole) (arg9 : Memref sig .tc .vmem S16x6144 .f32) (harg9 : arg9.IsWhole) (hc0 : ¬cond0_0 i) (hc1 : cond0_1 i)
    (x0 : Vec F S16x4096 .bf16) (x1 : Vec F S256x6144 .bf16) (y6 : Vec F S32x48 .i32) (xs0 : Vec F S16x4096 .bf16) (xs1 : Vec F S16x6144 .f32)

set_option maxHeartbeats 8000000 in
theorem runC_L5 : ChainW arg2 harg2 x1 48 (runC c i arg1 harg1 arg2 harg2 arg3 harg3 arg4 harg4 arg5 harg5 arg6 harg6 arg7 harg7 arg8 harg8 arg9 harg9 hc0 hc1 x0 x1 y6 xs0 xs1).2.1 := by
  unfold runC
  dsimp only
  iterate 48 refine ⟨_, _, _, rfl, ?_⟩
  rfl

set_option maxHeartbeats 8000000 in
theorem runC_LS1 : ChainY arg2 harg2 x1 arg6 (ldB arg8 harg8 i xs0 0#32 (k0_off1_inb i 0)) (ldB arg8 harg8 i xs0 128#32 (k0_off1_inb i 1)) []
    (fun o h _ => View.readAt (Elt F) arg9.view (Rect.unit (s := S16x6144) o S16x128.size h).toLoadRect (harg9.unread xs1)) 24
    (runC c i arg1 harg1 arg2 harg2 arg3 harg3 arg4 harg4 arg5 harg5 arg6 harg6 arg7 harg7 arg8 harg8 arg9 harg9 hc0 hc1 x0 x1 y6 xs0 xs1).2.1
    (runC c i arg1 harg1 arg2 harg2 arg3 harg3 arg4 harg4 arg5 harg5 arg6 harg6 arg7 harg7 arg8 harg8 arg9 harg9 hc0 hc1 x0 x1 y6 xs0 xs1).2.2.2.1 := by
  unfold runC
  dsimp only
  iterate 24
    refine ⟨_, _, _, _, _, _, inC _ (by decide), _, _, _, _, _, rfl, rfl, rfl, ?_, ?_, ?_⟩
    · rfl
    · rfl
  rfl

set_option maxHeartbeats 8000000 in
theorem runC_L6 : (runC c i arg1 harg1 arg2 harg2 arg3 harg3 arg4 harg4 arg5 harg5 arg6 harg6 arg7 harg7 arg8 harg8 arg9 harg9 hc0 hc1 x0 x1 y6 xs0 xs1).2.2.1
    = [⟨Rect.unit (k0_off2 i 1#32) S1x48.size (k0_off2_inb i 1), wScaleRow fun j => ldW arg2 harg2 x1 1 j.val (inW 1 j.val (by omega) j.isLt)⟩,
      ⟨Rect.unit (k0_off2 i 0#32) S1x48.size (k0_off2_inb i 0), wScaleRow fun j => ldW arg2 harg2 x1 0 j.val (inW 0 j.val (by omega) j.isLt)⟩] := by
  unfold runC
  dsimp only
  rfl

set_option maxHeartbeats 8000000 in
theorem runC_L2 : (runC c i arg1 harg1 arg2 harg2 arg3 harg3 arg4 harg4 arg5 harg5 arg6 harg6 arg7 harg7 arg8 harg8 arg9 harg9 hc0 hc1 x0 x1 y6 xs0 xs1).1
    = [⟨Rect.unit ![0, 0] S16x6144.size inb_S16x6144_S16x6144_0_0, k0_pay5 (arg9.view.readCov (runC c i arg1 harg1 arg2 harg2 arg3 harg3 arg4 harg4 arg5 harg5 arg6 harg6 arg7 harg7 arg8 harg8 arg9 harg9 hc0 hc1 x0 x1 y6 xs0 xs1).2.2.2.1
        (Rect.unit (s := S16x6144) ![0, 0] S16x6144.size inb_S16x6144_S16x6144_0_0).toLoadRect)⟩] := by
  unfold runC
  dsimp only
  unfold runC.sl.v10347
  rfl

end

end Cert.KernelIdeal.Hand

end
-- ==== Proof.Left.lean ====
/-
  What each run leaves in the buffers it stores into, as functions of what it found there.
-/
module

public import proofs.«01_k».proof.Proof.ChainsA
public import proofs.«01_k».proof.Proof.ChainsB
public import proofs.«01_k».proof.Proof.ChainsC

@[expose] public section

set_option maxRecDepth 16384

noncomputable section

namespace Cert.KernelIdeal.Hand

open Idealize.ShloMosaic Idealize.ShloMosaic.TcCoe
open Cert.KernelIdeal.Gen

variable {F : FTy → Type} [FloatOps F]

/-! ## Offsets that the point fixes -/

theorem coord0 (t : Fin cfg0.N) : (grid0.coords t 0).val = t.val := by
  have ht : t.val < 16 := Nat.lt_of_lt_of_eq t.isLt N_0
  have e0 : (grid0.coords t 0).val = t.val / 1 % 16 := Pipeline.Grid.coords_val t 0 (by decide) rfl
  omega

theorem off1_0 (t : Fin cfg0.N) : k0_off1 (grid0.coords t) 0#32 = ![0, 128 * (2 * t.val)] := by
  have ht : t.val < 16 := Nat.lt_of_lt_of_eq t.isLt N_0
  have e := coord0 t
  funext a
  match a with
  | ⟨0, _⟩ => rfl
  | ⟨1, _⟩ =>
    show (BitVec.ofNat 32 (grid0.coords t 0).val * 256#32 + 0#32).toNat = 128 * (2 * t.val)
    rw [e]
    simp only [BitVec.toNat_add, BitVec.toNat_mul, BitVec.toNat_ofNat]
    omega

theorem off1_1 (t : Fin cfg0.N) : k0_off1 (grid0.coords t) 128#32 = ![0, 128 * (2 * t.val + 1)] := by
  have ht : t.val < 16 := Nat.lt_of_lt_of_eq t.isLt N_0
  have e := coord0 t
  funext a
  match a with
  | ⟨0, _⟩ => rfl
  | ⟨1, _⟩ =>
    show (BitVec.ofNat 32 (grid0.coords t 0).val * 256#32 + 128#32).toNat = 128 * (2 * t.val + 1)
    rw [e]
    simp only [BitVec.toNat_add, BitVec.toNat_mul, BitVec.toNat_ofNat]
    omega

theorem off2_0 (t : Fin cfg0.N) : k0_off2 (grid0.coords t) 0#32 = ![2 * t.val, 0] := by
  have ht : t.val < 16 := Nat.lt_of_lt_of_eq t.isLt N_0
  have e := coord0 t
  funext a
  match a with
  | ⟨0, _⟩ =>
    show (BitVec.ofNat 32 (grid0.coords t 0).val * 2#32 + 0#32).toNat = 2 * t.val
    rw [e]
    simp only [BitVec.toNat_add, BitVec.toNat_mul, BitVec.toNat_ofNat]
    omega
  | ⟨1, _⟩ => rfl

theorem off2_1 (t : Fin cfg0.N) : k0_off2 (grid0.coords t) 1#32 = ![2 * t.val + 1, 0] := by
  have ht : t.val < 16 := Nat.lt_of_lt_of_eq t.isLt N_0
  have e := coord0 t
  funext a
  match a with
  | ⟨0, _⟩ =>
    show (BitVec.ofNat 32 (grid0.coords t 0).val * 2#32 + 1#32).toNat = 2 * t.val + 1
    rw [e]
    simp only [BitVec.toNat_add, BitVec.toNat_mul, BitVec.toNat_ofNat]
    omega
  | ⟨1, _⟩ => rfl

/-! ## The buffers -/

theorem left_W (m6 : Memref sig .tc .vmem S256x6144 .fp8e4m3) (f : m6.view.ty.Contents (Elt F)) {m : Memref sig .tc .vmem S256x6144 .bf16} {hm : m.IsWhole}
    {x : Vec F S256x6144 .bf16} {L : List (View.Piece (Elt F) S256x6144 .fp8e4m3)} (h : ChainW m hm x 48 L) :
    m6.view.read (Elt F) (m6.view.writes (Elt F) f L) = codesW x := by
  rw [View.read_writes_eq_canon _ _ _ fun y => h.cover y (by have := idx2_lt1 y; omega)]
  exact funext fun y => h.canon_eq y (by have := idx2_lt1 y; omega)

theorem canon_X {e : EltTy} {g : Vec F S16x128 .bf16 → Vec F S16x128 e} {m : Memref sig .tc .vmem S16x4096 .bf16} {hm : m.IsWhole}
    {x : Vec F S16x4096 .bf16} {L : List (View.Piece (Elt F) S16x4096 e)} (h : ChainX g m hm x 32 L) :
    View.canon L = fun y : S16x4096.Idx => g (blkX x ((y 1).val / 128)) (iR (y 0).val (y 1).val) :=
  funext fun y => h.canon_eq y (by have := idx2_lt1 y; omega)

theorem left_X {e : EltTy} {g : Vec F S16x128 .bf16 → Vec F S16x128 e} (m4 : Memref sig .tc .vmem S16x4096 e) (f : m4.view.ty.Contents (Elt F))
    {m : Memref sig .tc .vmem S16x4096 .bf16} {hm : m.IsWhole}
    {x : Vec F S16x4096 .bf16} {L : List (View.Piece (Elt F) S16x4096 e)} (h : ChainX g m hm x 32 L) :
    m4.view.read (Elt F) (m4.view.writes (Elt F) f L) = fun y : S16x4096.Idx => g (blkX x ((y 1).val / 128)) (iR (y 0).val (y 1).val) := by
  rw [View.read_writes_eq_canon _ _ _ fun y => h.cover y (by have := idx2_lt1 y; omega)]
  exact canon_X h

/-- The loads of the scaled activation from the pieces just stored. -/
theorem ldA_eq (m : Memref sig .tc .vmem S16x4096 .bf16) (i : grid0.Coords) {m1 : Memref sig .tc .vmem S16x4096 .bf16} {hm1 : m1.IsWhole}
    {x : Vec F S16x4096 .bf16} {L : List (View.Piece (Elt F) S16x4096 .bf16)} (hL : ChainX xScaled m1 hm1 x 32 L) (k : BitVec 32)
    (h : ∀ a, k0_off1 i k a + S16x128.size a ≤ S16x4096.size a) (j : ℕ) (ho : k0_off1 i k = ![0, 128 * j]) :
    ldA m i L k h = blkX (scaledX x) j := by
  unfold ldA
  rw [View.readAt_writes_junk_eq_canon, canon_X hL]
  have h1 := h 1
  simp only [ho] at h1
  have h1' : 128 * j + 128 ≤ 4096 := h1
  funext z
  have z0 := idx2_lt0 z
  have z1 := idx2_lt1 z
  refine congrArg (scaledX x) (idx2_ext ?_ ?_)
  · show k0_off1 i k 0 + 1 * (z 0).val = (z 0).val % 16
    have e : k0_off1 i k 0 = 0 := congrFun ho 0
    omega
  · show k0_off1 i k 1 + 1 * (z 1).val = (128 * j + (z 1).val) % 4096
    have e : k0_off1 i k 1 = 128 * j := congrFun ho 1
    omega

theorem left_Y (m9 : Memref sig .tc .vmem S16x6144 .f32) (h9 : m9.IsWhole) (f : m9.view.ty.Contents (Elt F)) {m : Memref sig .tc .vmem S256x6144 .bf16} {hm : m.IsWhole} {x : Vec F S256x6144 .bf16}
    {m6 : Memref sig .tc .vmem S256x6144 .fp8e4m3} {xd0 xd1 : Vec F S16x128 .bf16} {a : Vec F S16x6144 .f32}
    {lw : List (View.Piece (Elt F) S256x6144 .fp8e4m3)} {L : List (View.Piece (Elt F) S16x6144 .f32)}
    (h : ChainY m hm x m6 xd0 xd1 []
      (fun o h _ => View.readAt (Elt F) m9.view (Rect.unit (s := S16x6144) o S16x128.size h).toLoadRect (h9.unread a)) 24 lw L) :
    m9.view.read (Elt F) (m9.view.writes (Elt F) f L) = accStep xd0 xd1 x a := by
  rw [View.read_writes_eq_canon _ _ _ fun y => h.cover y (by have := idx2_lt1 y; omega)]
  funext y
  rw [h.canon_eq (a := a) (fun j hj _ _ => load_blkY m9 h9 a j hj) y, if_pos (by have := idx2_lt1 y; omega)]

/-- A load of the whole accumulator from the pieces just stored. -/
theorem readCov_Y (m9 : Memref sig .tc .vmem S16x6144 .f32) (h9 : m9.IsWhole) {m : Memref sig .tc .vmem S256x6144 .bf16} {hm : m.IsWhole} {x : Vec F S256x6144 .bf16}
    {m6 : Memref sig .tc .vmem S256x6144 .fp8e4m3} {xd0 xd1 : Vec F S16x128 .bf16} {a : Vec F S16x6144 .f32}
    {lw : List (View.Piece (Elt F) S256x6144 .fp8e4m3)} {L : List (View.Piece (Elt F) S16x6144 .f32)}
    (h : ChainY m hm x m6 xd0 xd1 []
      (fun o h _ => View.readAt (Elt F) m9.view (Rect.unit (s := S16x6144) o S16x128.size h).toLoadRect (h9.unread a)) 24 lw L) :
    m9.view.readCov L (Rect.unit (s := S16x6144) ![0, 0] S16x6144.size inb_S16x6144_S16x6144_0_0).toLoadRect = accStep xd0 xd1 x a := by
  rw [View.readCov_eq_canon']
  funext y
  have e : (Rect.unit (s := S16x6144) ![0, 0] S16x6144.size inb_S16x6144_S16x6144_0_0).toLoadRect.idx y = y := by
    refine idx2_ext (n := 16) (m := 6144) ?_ ?_
    · show 0 + 1 * (y 0).val = (y 0).val; omega
    · show 0 + 1 * (y 1).val = (y 1).val; omega
  rw [e, h.canon_eq (a := a) (fun j hj _ _ => load_blkY m9 h9 a j hj) y, if_pos (by have := idx2_lt1 (n := 16) (m := 6144) y; omega)]

/-- The same, the accumulator zeroed first. -/
theorem left_Y0 (m9 : Memref sig .tc .vmem S16x6144 .f32) (f : m9.view.ty.Contents (Elt F)) {m : Memref sig .tc .vmem S256x6144 .bf16} {hm : m.IsWhole} {x : Vec F S256x6144 .bf16}
    {m6 : Memref sig .tc .vmem S256x6144 .fp8e4m3} {xd0 xd1 : Vec F S16x128 .bf16} {a : Vec F S16x6144 .f32}
    {lw : List (View.Piece (Elt F) S256x6144 .fp8e4m3)} {L : List (View.Piece (Elt F) S16x6144 .f32)}
    (h : ChainY m hm x m6 xd0 xd1 [⟨Rect.unit ![0, 0] S16x6144.size inb_S16x6144_S16x6144_0_0, a⟩]
      (fun o h L => m9.view.readCov L (Rect.unit (s := S16x6144) o S16x128.size h).toLoadRect) 24 lw L) :
    m9.view.read (Elt F) (m9.view.writes (Elt F) f L) = accStep xd0 xd1 x a := by
  rw [View.read_writes_eq_canon _ _ _ fun y => h.cover y (by have := idx2_lt1 y; omega)]
  funext y
  rw [h.canon_eq (a := a) (fun j hj L' hL' => ?_) y, if_pos (by have := idx2_lt1 y; omega)]
  have h1 : 128 * j + 128 ≤ 6144 := hj 1
  rw [View.readCov_eq_canon']
  funext z
  have z0 := idx2_lt0 z
  have z1 := idx2_lt1 z
  have e1 : (((Rect.unit (s := S16x6144) ![0, 128 * j] S16x128.size hj).toLoadRect.idx z) 1).val = 128 * j + 1 * (z 1).val := rfl
  have e0 : (((Rect.unit (s := S16x6144) ![0, 128 * j] S16x128.size hj).toLoadRect.idx z) 0).val = 0 + 1 * (z 0).val := rfl
  rw [hL' _ (by rw [e1]; omega), canon_hit 0 0 inb_S16x6144_S16x6144_0_0 a [] _ _ (by rw [Nat.zero_add]) (by rw [Nat.zero_add])]
  refine congrArg a (idx2_ext ?_ ?_)
  · rw [e0]; show _ = (z 0).val % 16; omega
  · rw [e1]; show _ = (128 * j + (z 1).val) % 6144; omega

/-- A buffer with one whole piece. -/
theorem left_whole {n p : ℕ} {e : EltTy} (m : Memref sig .tc .vmem (⟨2, ![n, p]⟩ : Shape) e) (f : m.view.ty.Contents (Elt F)) (h)
    (w : Vec F (⟨2, ![n, p]⟩ : Shape) e) :
    m.view.read (Elt F) (m.view.writes (Elt F) f [⟨Rect.unit ![0, 0] (⟨2, ![n, p]⟩ : Shape).size h, w⟩]) = w := by
  rw [View.read_writes_eq_canon]
  · funext y
    exact canon_hit 0 0 h w [] y y (by rw [Nat.zero_add]) (by rw [Nat.zero_add])
  intro y
  exact ⟨_, List.mem_cons_self, mem_unit2 0 0 h y (Nat.zero_le _) (by have := idx2_lt0 y; omega) (Nat.zero_le _) (by have := idx2_lt1 y; omega)⟩

/-! ## The weight's scales -/

abbrev iS (b : ℕ) : S1x48.Idx := ix2 (n := 1) (m := 48) (by omega) (by omega) 0 b

/-- One row of the weight's scales, from a window's row of blocks. -/
def rowW (x : Vec F S256x6144 .bf16) (r : ℕ) : IVec S1x48 32 := wScaleRow fun j => blkW x r j.val

theorem rowW_eq (m : Memref sig .tc .vmem S256x6144 .bf16) (hm : m.IsWhole) (x : Vec F S256x6144 .bf16) (r : ℕ) (hr : r < 2) :
    (wScaleRow fun j : Fin 48 => ldW m hm x r j.val (inW r j.val hr j.isLt)) = rowW x r := by
  unfold rowW
  exact congrArg wScaleRow (funext fun j => load_blkW m hm x r j.val _)

theorem left_S (m7 : Memref sig .tc .vmem S32x48 .i32) (h7 : m7.IsWhole) (y6 : Vec F S32x48 .i32) (t : Fin cfg0.N) (h1 h0) (w1 w0 : IVec S1x48 32) (y : S32x48.Idx) :
    m7.view.read (Elt F) (m7.view.writes (Elt F) (h7.unread y6) [⟨Rect.unit (k0_off2 (grid0.coords t) 1#32) S1x48.size h1, w1⟩,
      ⟨Rect.unit (k0_off2 (grid0.coords t) 0#32) S1x48.size h0, w0⟩]) y
    = if (y 0).val = 2 * t.val + 1 then w1 (iS (y 1).val) else if (y 0).val = 2 * t.val then w0 (iS (y 1).val) else y6 y := by
  have y0 := idx2_lt0 y
  have y1 := idx2_lt1 y
  have a1 := off2_1 t
  have a0 := off2_0 t
  split
  · next h =>
    refine View.read_writes_cons_hit_of_coords _ _ (Rect.unit (s := S32x48) (k0_off2 (grid0.coords t) 1#32) S1x48.size h1) _ _ (iS (y 1).val) _ fun a => ?_
    match a with
    | ⟨0, _⟩ =>
      show (y 0).val = k0_off2 (grid0.coords t) 1#32 0 + 1 * 0
      rw [a1, h]; rfl
    | ⟨1, _⟩ =>
      show (y 1).val = k0_off2 (grid0.coords t) 1#32 1 + 1 * ((y 1).val % 48)
      rw [a1]; show (y 1).val = 0 + 1 * ((y 1).val % 48); omega
  · next h =>
    rw [View.read_writes_cons_miss_of_axis _ _ _ _ y (0 : Fin 2) (2 * t.val + 1) 1 (by show k0_off2 (grid0.coords t) 1#32 0 = _; rw [a1]; rfl) rfl rfl (by omega)]
    split
    · next h' =>
      refine View.read_writes_cons_hit_of_coords _ _ (Rect.unit (s := S32x48) (k0_off2 (grid0.coords t) 0#32) S1x48.size h0) _ _ (iS (y 1).val) _ fun a => ?_
      match a with
      | ⟨0, _⟩ =>
        show (y 0).val = k0_off2 (grid0.coords t) 0#32 0 + 1 * 0
        rw [a0, h']; rfl
      | ⟨1, _⟩ =>
        show (y 1).val = k0_off2 (grid0.coords t) 0#32 1 + 1 * ((y 1).val % 48)
        rw [a0]; show (y 1).val = 0 + 1 * ((y 1).val % 48); omega
    · next h' =>
      rw [View.read_writes_cons_miss_of_axis _ _ _ _ y (0 : Fin 2) (2 * t.val) 1 (by show k0_off2 (grid0.coords t) 0#32 0 = _; rw [a0]; rfl) rfl rfl (by omega)]
      rw [View.writes_nil, h7.read_unread]

end Cert.KernelIdeal.Hand

end
-- ==== Proof.Body.lean ====
/-
  The kernel's run: what every buffer holds after every point, and with it what every array holds at the end.
-/
module

public import proofs.«01_k».proof.Proof.Left
public import Idealize.ShloMosaic.Lib.Pipeline.DatRel
public import Idealize.ShloMosaic.Lib.Claim

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationRel cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents -/

/-- The point numbered `n`. -/
abbrev pt (n : ℕ) : Fin cfg0.N := ⟨n % 16, by rw [show cfg0.N = 16 from N_0]; omega⟩

theorem pt_self (t : Fin cfg0.N) : pt t.val = t := by
  have ht : t.val < 16 := Nat.lt_of_lt_of_eq t.isLt N_0
  exact Fin.ext (Nat.mod_eq_of_lt ht)

/-- The activation. -/
def actOf (c : Dev nD) : Vec F S16x4096 .bf16 := iblk m c 0 (pt 0)

/-- The weight's window at point `n`. -/
def wOf (c : Dev nD) (n : ℕ) : Vec F S256x6144 .bf16 := iblk m c 1 (pt n)

/-- The scaled activation's blocks that point `n` reads. -/
abbrev xdOf (c : Dev nD) (j : ℕ) : Vec F S16x128 .bf16 := blkX (scaledX (actOf m c)) j

/-- The accumulator after point `n`. -/
def accAt (c : Dev nD) : ℕ → Vec F S16x6144 .f32
  | 0 => accStep (xdOf m c 0) (xdOf m c 1) (wOf m c 0) k0_pay337
  | n + 1 => accStep (xdOf m c (2 * (n + 1))) (xdOf m c (2 * (n + 1) + 1)) (wOf m c (n + 1)) (accAt c n)

theorem accAt_zero (c : Dev nD) : accAt m c 0 = accStep (xdOf m c 0) (xdOf m c 1) (wOf m c 0) k0_pay337 := rfl
theorem accAt_succ (c : Dev nD) (n : ℕ) :
    accAt m c (n + 1) = accStep (xdOf m c (2 * (n + 1))) (xdOf m c (2 * (n + 1) + 1)) (wOf m c (n + 1)) (accAt m c n) := rfl

theorem accAt_pos (c : Dev nD) (n : ℕ) (h : n ≠ 0) :
    accAt m c n = accStep (xdOf m c (2 * n)) (xdOf m c (2 * n + 1)) (wOf m c n) (accAt m c (n - 1)) := by
  obtain ⟨k, rfl⟩ := Nat.exists_eq_succ_of_ne_zero h
  exact accAt_succ m c k

/-- The product. -/
def outY (c : Dev nD) : Vec F S16x6144 .bf16 := k0_pay5 (accAt m c 15)

/-- The activation's codes. -/
def outXC (c : Dev nD) : Vec F S16x4096 .fp8e4m3 := codesX (actOf m c)

/-- The activation's scales. -/
def outXS (c : Dev nD) : Vec F S16x32 .i8 := xScaleAll fun j => blkX (actOf m c) j.val

/-- The weight's codes at point `n`. -/
def outWC (c : Dev nD) (n : ℕ) : Vec F S256x6144 .fp8e4m3 := codesW (wOf m c n)

/-- The weight's scales. -/
def outWS (c : Dev nD) : Vec F S32x48 .i32 := fun y => rowW (wOf m c ((y 0).val / 2)) ((y 0).val % 2) (iS (y 1).val)

/-! ## The invariant -/

/-- Before point `n`: at the first the scratch at anything; after it, the scaled activation and the accumulator. -/
def PhiS (c : Dev nD) : (n : ℕ) → sProp 𝕄
  | 0 => Pipeline.ΦA spec0 c
  | n + 1 => iprop(iprop(owns (c : Thread nD τ) scM0_0 fullShare (scaledX (actOf m c)) ∗ owns (c : Thread nD τ) scM0_1 fullShare (accAt m c n)) ∗ (∃ r, prngReg c r))

theorem PhiS_zero (c : Dev nD) (n : ℕ) (hz : n = 0) : PhiS m c n = Pipeline.ΦA spec0 c := by
  subst hz; rfl

theorem PhiS_succ (c : Dev nD) (n : ℕ) :
    PhiS m c (n + 1) = iprop(iprop(owns (c : Thread nD τ) scM0_0 fullShare (scaledX (actOf m c)) ∗ owns (c : Thread nD τ) scM0_1 fullShare (accAt m c n)) ∗ (∃ r, prngReg c r)) := rfl

theorem PhiS_pos (c : Dev nD) (n : ℕ) (hz : n ≠ 0) :
    PhiS m c n = iprop(iprop(owns (c : Thread nD τ) scM0_0 fullShare (scaledX (actOf m c)) ∗ owns (c : Thread nD τ) scM0_1 fullShare (accAt m c (n - 1))) ∗ (∃ r, prngReg c r)) := by
  cases n with
  | zero => exact absurd rfl hz
  | succ n => rfl

/-- The windows that are held to a predicate: the outputs. -/
def fgt0 : Fin 7 → Bool := fun w => w.val == 2 || w.val == 3 || w.val == 4 || w.val == 5 || w.val == 6

/-- What each output's buffer holds after point `t`. -/
def rel0 (c : Dev nD) : (w : Fin cfg0.W) → Fin cfg0.N → ((cfg0.win w).block.Idx → Elt F (cfg0.win w).elt) → Prop := fun w =>
  match w with
  | ⟨0, _⟩ => fun _ _ => True
  | ⟨1, _⟩ => fun _ _ => True
  | ⟨2, _⟩ => fun t (X : Vec F S16x6144 .bf16) => t.val = 15 → X = outY m c
  | ⟨3, _⟩ => fun t (X : Vec F S16x4096 .fp8e4m3) => X = outXC m c
  | ⟨4, _⟩ => fun t (X : Vec F S16x32 .i8) => X = outXS m c
  | ⟨5, _⟩ => fun t (X : Vec F S256x6144 .fp8e4m3) => X = outWC m c t.val
  | ⟨6, _⟩ => fun t (X : Vec F S32x48 .i32) => ∀ y : S32x48.Idx, (y 0).val < 2 * (t.val + 1) → X y = outWS m c y

/-- The proof data. -/
def dats (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, h⟩ => Pipeline.Dat.unnamed (cfg := cfg0) ⟨2, h⟩ t
    | ⟨3, h⟩ => Pipeline.Dat.unnamed (cfg := cfg0) ⟨3, h⟩ t
    | ⟨4, h⟩ => Pipeline.Dat.unnamed (cfg := cfg0) ⟨4, h⟩ t
    | ⟨5, h⟩ => Pipeline.Dat.unnamed (cfg := cfg0) ⟨5, h⟩ t
    | ⟨6, h⟩ => Pipeline.Dat.unnamed (cfg := cfg0) ⟨6, h⟩ t
  Φ t := PhiS m c t.val
  q _ := fullShare
  owed _ := 0

theorem A_eq (c : Dev nD) (w : Fin cfg0.W) : (dats m c).A w = V m c (Pipeline.arrRef spec0 w) := by
  dsimp only [dats]

theorem after0_0 (c : Dev nD) (t : Fin cfg0.N) : (dats m c).after 0 t = iblk m c 0 t := by dsimp only [dats]
theorem after0_1 (c : Dev nD) (t : Fin cfg0.N) : (dats m c).after 1 t = iblk m c 1 t := by dsimp only [dats]

theorem before0_0 (c : Dev nD) (t : Fin cfg0.N) (d) : (dats m c).before 0 t d = iblk m c 0 t :=
  before0_0_of m (dats m c) (A_eq m c 0) (after0_0 m c) t d
theorem before0_1 (c : Dev nD) (t : Fin cfg0.N) (d) : (dats m c).before 1 t d = iblk m c 1 t :=
  before0_1_of m (dats m c) (A_eq m c 1) (after0_1 m c) t d

/-- The relational proof data. -/
abbrev rdats (c : Dev nD) : Pipeline.RDat τ (Elt F) Unit ℕ (UR sig nD τ) ℕ cfg0 c := (dats m c).toRRel fgt0 (rel0 m c)

/-- What an output's buffer holds before a point that is not the first, if the point before did not write it back. -/
theorem found (c : Dev nD) (w : Fin cfg0.W) (hw : fgt0 w = true) (hf : ∀ t : Fin cfg0.N, (cfg0.win w).fetch t = false)
    (hfl : ∀ t : Fin cfg0.N, (cfg0.win w).flush t = true ↔ t.val % 16 = 15) (t : Fin cfg0.N) (ht : t.val ≠ 0)
    (X : (cfg0.win w).block.Idx → Elt F (cfg0.win w).elt) (h : (rdats m c).Finds w t X) :
    rel0 m c w ⟨t.val - 1, Nat.lt_of_le_of_lt (Nat.sub_le _ _) t.isLt⟩ X := by
  have hN : t.val < 16 := lt_of_lt_of_eq t.isLt (show cfg0.N = 16 from N_0)
  rcases ((rdats m c).finds_of_pos (hf t) ht X).mp h with h | h
  · have := (hfl _).mp h
    exfalso
    have h' : (t.val - 1) % 16 = 15 := this
    omega
  · exact (dats m c).toRRel_leaves hw h

/-! ## The body -/

/-- What the body is called with at point `t`. -/
def bodyPre (c : Dev nD) (t : Fin cfg0.N) : sProp 𝕄 :=
  iprop(PhiS m c t.val ∗ (dats m c).owesAt () t.castSucc
    ∗ (∃ d, owns (c : Thread nD τ) (ms0_0 t) fullShare ((dats m c).before 0 t d))
    ∗ (∃ d, owns (c : Thread nD τ) (ms0_1 t) fullShare ((dats m c).before 1 t d))
    ∗ (∃ Y, ⌜(rdats m c).Finds 2 t Y⌝ ∗ owns (c : Thread nD τ) (ms0_2 t) fullShare Y)
    ∗ (∃ Y, ⌜(rdats m c).Finds 3 t Y⌝ ∗ owns (c : Thread nD τ) (ms0_3 t) fullShare Y)
    ∗ (∃ Y, ⌜(rdats m c).Finds 4 t Y⌝ ∗ owns (c : Thread nD τ) (ms0_4 t) fullShare Y)
    ∗ (∃ Y, ⌜(rdats m c).Finds 5 t Y⌝ ∗ owns (c : Thread nD τ) (ms0_5 t) fullShare Y)
    ∗ (∃ Y, ⌜(rdats m c).Finds 6 t Y⌝ ∗ owns (c : Thread nD τ) (ms0_6 t) fullShare Y))

/-- What it returns. -/
def bodyPost (c : Dev nD) (t : Fin cfg0.N) : sProp 𝕄 :=
  iprop(PhiS m c (t.val + 1) ∗ (dats m c).owesAt () t.succ
    ∗ owns (c : Thread nD τ) (ms0_0 t) fullShare (iblk m c 0 t)
    ∗ owns (c : Thread nD τ) (ms0_1 t) fullShare (iblk m c 1 t)
    ∗ (∃ X, ⌜rel0 m c 2 t X⌝ ∗ owns (c : Thread nD τ) (ms0_2 t) fullShare X)
    ∗ (∃ X, ⌜rel0 m c 3 t X⌝ ∗ owns (c : Thread nD τ) (ms0_3 t) fullShare X)
    ∗ (∃ X, ⌜rel0 m c 4 t X⌝ ∗ owns (c : Thread nD τ) (ms0_4 t) fullShare X)
    ∗ (∃ X, ⌜rel0 m c 5 t X⌝ ∗ owns (c : Thread nD τ) (ms0_5 t) fullShare X)
    ∗ (∃ X, ⌜rel0 m c 6 t X⌝ ∗ owns (c : Thread nD τ) (ms0_6 t) fullShare X))

theorem act_of (c : Dev nD) (t : Fin cfg0.N) (h : t.val = 0) : (iblk m c 0 t : Vec F S16x4096 .bf16) = actOf m c := by
  have e : t = pt 0 := Fin.ext h
  rw [e]; rfl

theorem w_of (c : Dev nD) (t : Fin cfg0.N) : (iblk m c 1 t : Vec F S256x6144 .bf16) = wOf m c t.val := by
  unfold wOf; rw [pt_self]

/-- One row of scales more. -/
theorem rows_step (c : Dev nD) (t : Fin cfg0.N) (y6 : Vec F S32x48 .i32)
    (h : ∀ y : S32x48.Idx, (y 0).val < 2 * t.val → y6 y = outWS m c y) (y : S32x48.Idx) (hy : (y 0).val < 2 * (t.val + 1)) :
    (if (y 0).val = 2 * t.val + 1 then rowW (wOf m c t.val) 1 (iS (y 1).val) else if (y 0).val = 2 * t.val then rowW (wOf m c t.val) 0 (iS (y 1).val) else y6 y)
      = outWS m c y := by
  unfold outWS
  split
  · next e => rw [show (y 0).val / 2 = t.val by omega, show (y 0).val % 2 = 1 by omega]
  · split
    · next e => rw [show (y 0).val / 2 = t.val by omega, show (y 0).val % 2 = 0 by omega]
    · rw [h y (by omega)]; rfl

set_option maxHeartbeats 4000000 in
/-- The body at the first point. -/
theorem sound_A (c : Dev nD) (t : Fin cfg0.N) (h0 : t.val % 16 = 0) (h1 : ¬t.val % 16 = 15) :
    bodyPre m c t ⊢ wp frame (wpE (defs₀ (F := F)) Variants.none c none) Set.univ (bodyAt0 t) (fun _ => bodyPost m c t) := by
  have hN : t.val < 16 := lt_of_lt_of_eq t.isLt (show cfg0.N = 16 from N_0)
  have hz : t.val = 0 := by omega
  unfold bodyPre bodyPost bodyAt0
  simp only [before0_0, before0_1]
  rw [show (dats m c).owesAt () t.succ = (dats m c).owesAt () t.castSucc from rfl]
  rw [PhiS_succ, PhiS_zero m c _ hz, PhiA0_eq]
  iintro ⟨⟨⟨HS0, HS1⟩, Hg⟩, Ho, ⟨%d0, H0⟩, ⟨%d1, H1⟩, ⟨%d2, -, H2⟩, ⟨%d3, -, H3⟩, ⟨%d4, -, H4⟩, ⟨%d5, -, H5⟩, ⟨%d6, -, H6⟩⟩
  iapply ((runA c (grid0.coords t) _ (hs0_0 t) _ (hs0_1 t) _ (hs0_2 t) _ (hs0_3 t) _ (hs0_4 t) _ (hs0_5 t) _ (hs0_6 t) _ (Memref.isWhole_whole _) _ (Memref.isWhole_whole _)
    ((hcond0_0 t).mpr h0) (fun h => h1 ((hcond0_1 t).mp h)) (iblk m c 0 t) (iblk m c 1 t) d6).2.2.2.2.2.2 Set.univ _)
  isplitl [H0]; · iexact H0
  isplitl [H1]; · iexact H1
  isplitl [H2]; · iexists _; iexact H2
  isplitl [H3]; · iexists _; iexact H3
  isplitl [H4]; · iexists _; iexact H4
  isplitl [H5]; · iexists _; iexact H5
  isplitl [H6]; · iexact H6
  isplitl [HS0]; · iexact HS0
  isplitl [HS1]; · iexact HS1
  iintro ⟨H0, H1, ⟨%e2, H2⟩, ⟨%e3, H3⟩, ⟨%e4, H4⟩, ⟨%e5, H5⟩, H6, ⟨%es0, HS0⟩, ⟨%es1, HS1⟩⟩
  isplitl [HS0 HS1 Hg]
  · isplitl [HS0 HS1]
    · isplitl [HS0]
      · unfold owns; iexists _; isplitr
        swap; · iexact HS0
        ipureintro
        rw [← act_of m c t hz]
        exact left_X _ _ (runA_LS0 c _ _ _ _ _ _ _ _ _ _ _ _ _ _ _ _ _ _ _ _ _ _ _ _)
      unfold owns; iexists _; isplitr
      swap; · iexact HS1
      ipureintro
      refine (left_Y0 _ _ (runA_LS1 c _ _ _ _ _ _ _ _ _ _ _ _ _ _ _ _ _ _ _ _ _ _ _ _)).trans ?_
      rw [ldA_eq _ _ (runA_LS0 c _ _ _ _ _ _ _ _ _ _ _ _ _ _ _ _ _ _ _ _ _ _ _ _) _ _ _ (off1_0 t),
        ldA_eq _ _ (runA_LS0 c _ _ _ _ _ _ _ _ _ _ _ _ _ _ _ _ _ _ _ _ _ _ _ _) _ _ _ (off1_1 t), act_of m c t hz, w_of m c t, hz, accAt_zero]
    iexact Hg
  isplitl [Ho]; · iexact Ho
  isplitl [H0]; · iexact H0
  isplitl [H1]; · iexact H1
  isplitl [H2]
  · iexists _; isplitr
    swap; · iexact H2
    ipureintro
    show t.val = 15 → _
    intro h; omega
  isplitl [H3]
  · iexists _; isplitr
    swap
    · unfold owns; iexists _; isplitr
      swap; · iexact H3
      ipureintro; rfl
    ipureintro
    refine (left_X _ _ (runA_L3 c _ _ _ _ _ _ _ _ _ _ _ _ _ _ _ _ _ _ _ _ _ _ _ _)).trans ?_
    rw [act_of m c t hz]; rfl
  isplitl [H4]
  · iexists _; isplitr
    swap
    · unfold owns; iexists _; isplitr
      swap; · iexact H4
      ipureintro; rfl
    ipureintro
    rw [runA_L4]
    refine (left_whole _ _ _ _).trans ?_
    rw [act_of m c t hz]
    exact congrArg xScaleAll (funext fun j => load_blkX _ _ _ _ _ rfl _)
  isplitl [H5]
  · iexists _; isplitr
    swap
    · unfold owns; iexists _; isplitr
      swap; · iexact H5
      ipureintro; rfl
    ipureintro
    refine (left_W _ _ (runA_L5 c _ _ _ _ _ _ _ _ _ _ _ _ _ _ _ _ _ _ _ _ _ _ _ _)).trans ?_
    rw [w_of m c t]; rfl
  · iexists _; isplitr
    swap
    · unfold owns; iexists _; isplitr
      swap; · iexact H6
      ipureintro; rfl
    ipureintro
    rw [runA_L6]
    intro y hy
    rw [left_S, rowW_eq _ _ _ _ (by omega), rowW_eq _ _ _ _ (by omega), w_of m c t]
    exact rows_step m c t d6 (fun y h => by omega) y hy

set_option maxHeartbeats 4000000 in
/-- The body at a point between. -/
theorem sound_B (c : Dev nD) (t : Fin cfg0.N) (h0 : ¬t.val % 16 = 0) (h1 : ¬t.val % 16 = 15) :
    bodyPre m c t ⊢ wp frame (wpE (defs₀ (F := F)) Variants.none c none) Set.univ (bodyAt0 t) (fun _ => bodyPost m c t) := by
  have hN : t.val < 16 := lt_of_lt_of_eq t.isLt (show cfg0.N = 16 from N_0)
  have hz : t.val ≠ 0 := by omega
  unfold bodyPre bodyPost bodyAt0
  simp only [before0_0, before0_1]
  rw [show (dats m c).owesAt () t.succ = (dats m c).owesAt () t.castSucc from rfl]
  rw [PhiS_succ, PhiS_pos m c _ hz]
  iintro ⟨⟨⟨HS0, HS1⟩, Hg⟩, Ho, ⟨%d0, H0⟩, ⟨%d1, H1⟩, ⟨%d2, -, H2⟩, ⟨%d3, %g3, H3⟩, ⟨%d4, %g4, H4⟩, ⟨%d5, -, H5⟩, ⟨%d6, %g6, H6⟩⟩
  iapply ((runB c (grid0.coords t) _ (hs0_0 t) _ (hs0_1 t) _ (hs0_2 t) _ (hs0_3 t) _ (hs0_4 t) _ (hs0_5 t) _ (hs0_6 t) _ (Memref.isWhole_whole _) _ (Memref.isWhole_whole _)
    (fun h => h0 ((hcond0_0 t).mp h)) (fun h => h1 ((hcond0_1 t).mp h)) (iblk m c 0 t) (iblk m c 1 t) d6 _ _).2.2.2 Set.univ _)
  isplitl [H0]; · iexact H0
  isplitl [H1]; · iexact H1
  isplitl [H2]; · iexists _; iexact H2
  isplitl [H5]; · iexists _; iexact H5
  isplitl [H6]; · iexact H6
  isplitl [HS0]; · iexact HS0
  isplitl [HS1]; · iexact HS1
  iintro ⟨H0, H1, ⟨%e2, H2⟩, ⟨%e5, H5⟩, H6, HS0, ⟨%es1, HS1⟩⟩
  isplitl [HS0 HS1 Hg]
  · isplitl [HS0 HS1]
    · isplitl [HS0]
      · iexact HS0
      unfold owns; iexists _; isplitr
      swap; · iexact HS1
      ipureintro
      refine (left_Y _ _ _ (runB_LS1 c _ _ _ _ _ _ _ _ _ _ _ _ _ _ _ _ _ _ _ _ _ _ _ _ _ _)).trans ?_
      rw [accAt_pos m c _ hz, w_of m c t]
      unfold ldB
      rw [load_blkX _ _ _ _ _ (off1_0 t), load_blkX _ _ _ _ _ (off1_1 t)]
    iexact Hg
  isplitl [Ho]; · iexact Ho
  isplitl [H0]; · iexact H0
  isplitl [H1]; · iexact H1
  isplitl [H2]
  · iexists _; isplitr
    swap; · iexact H2
    ipureintro
    show t.val = 15 → _
    intro h; omega
  isplitl [H3]
  · iexists _; isplitr
    swap; · iexact H3
    ipureintro
    exact found m c 3 rfl (fun _ => rfl) flush0_3 t hz _ g3
  isplitl [H4]
  · iexists _; isplitr
    swap; · iexact H4
    ipureintro
    exact found m c 4 rfl (fun _ => rfl) flush0_4 t hz _ g4
  isplitl [H5]
  · iexists _; isplitr
    swap
    · unfold owns; iexists _; isplitr
      swap; · iexact H5
      ipureintro; rfl
    ipureintro
    refine (left_W _ _ (runB_L5 c _ _ _ _ _ _ _ _ _ _ _ _ _ _ _ _ _ _ _ _ _ _ _ _ _ _)).trans ?_
    rw [w_of m c t]; rfl
  · iexists _; isplitr
    swap
    · unfold owns; iexists _; isplitr
      swap; · iexact H6
      ipureintro; rfl
    ipureintro
    rw [runB_L6]
    intro y hy
    rw [left_S, rowW_eq _ _ _ _ (by omega), rowW_eq _ _ _ _ (by omega), w_of m c t]
    refine rows_step m c t d6 (fun y h => ?_) y hy
    exact found m c 6 rfl (fun _ => rfl) flush0_6 t hz _ g6 y (by show (y 0).val < 2 * (t.val - 1 + 1); omega)

set_option maxHeartbeats 4000000 in
/-- The body at the last point. -/
theorem sound_C (c : Dev nD) (t : Fin cfg0.N) (h0 : ¬t.val % 16 = 0) (h1 : t.val % 16 = 15) :
    bodyPre m c t ⊢ wp frame (wpE (defs₀ (F := F)) Variants.none c none) Set.univ (bodyAt0 t) (fun _ => bodyPost m c t) := by
  have hN : t.val < 16 := lt_of_lt_of_eq t.isLt (show cfg0.N = 16 from N_0)
  have hz : t.val ≠ 0 := by omega
  unfold bodyPre bodyPost bodyAt0
  simp only [before0_0, before0_1]
  rw [show (dats m c).owesAt () t.succ = (dats m c).owesAt () t.castSucc from rfl]
  rw [PhiS_succ, PhiS_pos m c _ hz]
  iintro ⟨⟨⟨HS0, HS1⟩, Hg⟩, Ho, ⟨%d0, H0⟩, ⟨%d1, H1⟩, ⟨%d2, -, H2⟩, ⟨%d3, %g3, H3⟩, ⟨%d4, %g4, H4⟩, ⟨%d5, -, H5⟩, ⟨%d6, %g6, H6⟩⟩
  iapply ((runC c (grid0.coords t) _ (hs0_0 t) _ (hs0_1 t) _ (hs0_2 t) _ (hs0_3 t) _ (hs0_4 t) _ (hs0_5 t) _ (hs0_6 t) _ (Memref.isWhole_whole _) _ (Memref.isWhole_whole _)
    (fun h => h0 ((hcond0_0 t).mp h)) ((hcond0_1 t).mpr h1) (iblk m c 0 t) (iblk m c 1 t) d6 _ _).2.2.2.2 Set.univ _)
  isplitl [H0]; · iexact H0
  isplitl [H1]; · iexact H1
  isplitl [H2]; · iexists _; iexact H2
  isplitl [H5]; · iexists _; iexact H5
  isplitl [H6]; · iexact H6
  isplitl [HS0]; · iexact HS0
  isplitl [HS1]; · iexact HS1
  iintro ⟨H0, H1, ⟨%e2, H2⟩, ⟨%e5, H5⟩, H6, HS0, ⟨%es1, HS1⟩⟩
  isplitl [HS0 HS1 Hg]
  · isplitl [HS0 HS1]
    · isplitl [HS0]
      · iexact HS0
      unfold owns; iexists _; isplitr
      swap; · iexact HS1
      ipureintro
      refine (left_Y _ _ _ (runC_LS1 c _ _ _ _ _ _ _ _ _ _ _ _ _ _ _ _ _ _ _ _ _ _ _ _ _ _)).trans ?_
      rw [accAt_pos m c _ hz, w_of m c t]
      unfold ldB
      rw [load_blkX _ _ _ _ _ (off1_0 t), load_blkX _ _ _ _ _ (off1_1 t)]
    iexact Hg
  isplitl [Ho]; · iexact Ho
  isplitl [H0]; · iexact H0
  isplitl [H1]; · iexact H1
  isplitl [H2]
  · iexists _; isplitr
    swap
    · unfold owns; iexists _; isplitr
      swap; · iexact H2
      ipureintro; rfl
    ipureintro
    show t.val = 15 → _
    intro ht
    rw [runC_L2]
    refine (left_whole _ _ _ _).trans ?_
    unfold outY
    refine congrArg k0_pay5 ((readCov_Y _ _ (runC_LS1 c _ _ _ _ _ _ _ _ _ _ _ _ _ _ _ _ _ _ _ _ _ _ _ _ _ _)).trans ?_)
    rw [show accAt m c 15 = accAt m c t.val by rw [ht], accAt_pos m c _ hz, w_of m c t]
    unfold ldB
    rw [load_blkX _ _ _ _ _ (off1_0 t), load_blkX _ _ _ _ _ (off1_1 t)]
  isplitl [H3]
  · iexists _; isplitr
    swap; · iexact H3
    ipureintro
    exact found m c 3 rfl (fun _ => rfl) flush0_3 t hz _ g3
  isplitl [H4]
  · iexists _; isplitr
    swap; · iexact H4
    ipureintro
    exact found m c 4 rfl (fun _ => rfl) flush0_4 t hz _ g4
  isplitl [H5]
  · iexists _; isplitr
    swap
    · unfold owns; iexists _; isplitr
      swap; · iexact H5
      ipureintro; rfl
    ipureintro
    refine (left_W _ _ (runC_L5 c _ _ _ _ _ _ _ _ _ _ _ _ _ _ _ _ _ _ _ _ _ _ _ _ _ _)).trans ?_
    rw [w_of m c t]; rfl
  · iexists _; isplitr
    swap
    · unfold owns; iexists _; isplitr
      swap; · iexact H6
      ipureintro; rfl
    ipureintro
    rw [runC_L6]
    intro y hy
    rw [left_S, rowW_eq _ _ _ _ (by omega), rowW_eq _ _ _ _ (by omega), w_of m c t]
    refine rows_step m c t d6 (fun y h => ?_) y hy
    exact found m c 6 rfl (fun _ => rfl) flush0_6 t hz _ g6 y (by show (y 0).val < 2 * (t.val - 1 + 1); omega)

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h0 : t.val % 16 = 0
  · exact sound_A m c t h0 (by omega)
  · by_cases h1 : t.val % 16 = 15
    · exact sound_C m c t h0 h1
    · exact sound_B m c t h0 h1

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligationRel (dats (F := F) m c) (defs₀ (F := F)) Variants.none () Set.univ fgt0 (rel0 m c) := fun t => by
  rw [bigSep_W0, bigSep_W0, defs₀_row]
  exact triple_restated (sound_body m c t) rfl .rfl fun _ => .rfl

theorem hin (c : Dev nD) : Pipeline.ΦA spec0 c ⊢ (dats m c).Φ 0 := by
  rw [show (dats m c).Φ 0 = PhiS m c 0 from rfl, PhiS_zero m c 0 rfl]
  try exact Idealize.SL.BI.Entails.refl _

theorem hout (c : Dev nD) : (dats m c).Φ (Fin.last cfg0.N) ⊢ Pipeline.ΦA spec0 c := by
  rw [show (dats m c).Φ (Fin.last cfg0.N) = PhiS m c (Fin.last cfg0.N).val from rfl,
    PhiS_pos m c _ (by rw [Fin.val_last]; have : cfg0.N = 16 := N_0; omega), PhiA0_eq]
  iintro ⟨⟨HS0, HS1⟩, Hg⟩
  isplitl [HS0 HS1]
  · isplitl [HS0]
    · iexists _; iexact HS0
    iexists _; iexact HS1
  iexact Hg

/-! ## The run -/

set_option backward.isDefEq.respectTransparency.types false in
/-- The launch, for any proof data whose outputs are held to predicates. -/
theorem run_rel (dat : (c : Dev nD) → Dat τ (Elt F) Unit ℕ (UR sig nD τ) ℕ cfg0 c) (fgt : Fin cfg0.W → Bool)
    (Rl : (c : Dev nD) → (w : Fin cfg0.W) → Fin cfg0.N → ((cfg0.win w).block.Idx → Elt F (cfg0.win w).elt) → Prop)
    (hbody : ∀ c, BodyObligationRel (dat c) (defs₀ (F := F)) Variants.none () Set.univ fgt (Rl c))
    (hshare : ∀ c w, (dat c).share w = fullShare) (howed : ∀ c t, (dat c).owed t = 0)
    (hA : ∀ c w, (dat c).A w = V m c (Pipeline.arrRef spec0 w))
    (hin : ∀ c, Pipeline.ΦA spec0 c ⊢ (dat c).Φ 0) (hout : ∀ c, (dat c).Φ (Fin.last cfg0.N) ⊢ Pipeline.ΦA spec0 c) :
    θ_run defs (onTc (τ := τ) (main (F := F))) (s₀ m ρ)
      (fun r => Pipeline.RDat.FramePost (cfgs 0) (fun c => (dat c).toRRel fgt (Rl c)) (V m) r ∧ r.2.sem = fun _ => 0) :=
  Pipeline.RDat.θ_run_frame_track cfgs (0 : Fin 1) launch0 defs₀ Variants.none (fun c => (dat c).toRRel fgt (Rl c)) m ρ main
    (fun c => (hbody c).toRRel) hshare howed (V m) (hmain m Variants.none) hA hin hout _ (fun _ h => h)

/-- The kernel's run. -/
theorem run_main : θ_run defs (onTc (τ := τ) (main (F := F))) (s₀ m ρ)
    (fun r => Pipeline.RDat.FramePost (cfgs 0) (rdats m) (V m) r ∧ r.2.sem = fun _ => 0) :=
  run_rel m ρ (dats m) fgt0 (rel0 m) (body_obligation m) (fun c => (dats m c).share_full fun _ => rfl) (fun _ _ => rfl) (A_eq m) (hin m) (hout m)

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of_rel m ρ (rdats m) (A_eq m) ((θ_run defs _ _).mono (fun _ h => h.1) (run_main m ρ)))
    ((θ_run defs _ _).mono (fun _ h => h.2) (run_main m ρ))

end Cert.KernelIdeal.Hand

end
-- ==== Proof.KernelFrame.lean ====
/-
  The frame of the kernel as printed: it and its idealization, with no rewrite between them, are the same program, and the idealization's
  frame is proved at every float instance.
-/
module

public import proofs.«01_k».proof.Kernel
public import proofs.«01_k».proof.Proof.Gen.Kernel
public import proofs.«01_k».proof.Proof.Body

@[expose] public section

set_option maxRecDepth 65536

noncomputable section

namespace Cert.Kernel.Hand

open Idealize.ShloMosaic Idealize.ShloMosaic.TcCoe Idealize.SL.Sem

variable {F : FTy → Type} [FloatOps F]

/-- The two body tables are the same. -/
theorem defs₀_eq : Cert.Kernel.defs₀ (F := F) = Cert.KernelIdeal.defs₀ (F := F) := by
  unfold Cert.Kernel.defs₀ Cert.KernelIdeal.defs₀
  refine congrArg Defs.onTc (funext fun l => funext fun a => ?_)
  obtain rfl : l = 0 := Subsingleton.elim _ _
  exact rfl

/-- The two body tables with the pipeline's are the same. -/
theorem defs_eq : Cert.Kernel.defs (F := F) = Cert.KernelIdeal.defs (F := F) :=
  congrArg (Pipeline.defs Cert.KernelIdeal.pcfgs) defs₀_eq

/-- The frame. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) := by
  rw [defs_eq]
  exact Cert.KernelIdeal.Hand.frame (F := F) m ρ

end Cert.Kernel.Hand

end
-- ==== Proof.Exponent.lean ====
/-
  The exponent of a nonnegative extended real, twice: as the kernel finds it, by a binary search over the eight bits of the exponent
  field, and as the reference states it, as the largest of 254 powers of two at most the number. Both are `eOf`.
-/
module

public import Idealize.ShloMosaic.Lib.IdealHost

@[expose] public section

noncomputable section

namespace Cert.Exponent

open Idealize.ShloMosaic

/-- The float whose exponent field is `n` and whose fraction is 0: 0, the powers of two from 2^-126 to 2^127, and infinity. -/
def P (n : ℕ) : EReal := if n = 0 then 0 else if n ≤ 254 then (((2 : ℝ) ^ ((n : ℤ) - 127) : ℝ) : EReal) else ⊤

/-- The word of exponent field `n` and fraction 0. -/
def W (n : ℕ) : BitVec 32 := BitVec.ofNat 32 (n * 2 ^ 23)

theorem toNat_W (n : ℕ) (h : n < 512) : (W n).toNat = n * 2 ^ 23 := by
  rw [W, BitVec.toNat_ofNat, Nat.mod_eq_of_lt]; omega

/-- What the word of exponent field `n` denotes. -/
theorem ofBits_W (n : ℕ) (h : n ≤ 255) : Ideal.ofBits .f32 (W n) = P n := by
  have hs : (W n).extractLsb' 31 1 = 0#1 := by
    apply BitVec.eq_of_toNat_eq
    rw [BitVec.extractLsb'_toNat, toNat_W n (by omega), Nat.shiftRight_eq_div_pow]
    simp; omega
  have he : ((W n).extractLsb' 23 8).toNat = n := by
    rw [BitVec.extractLsb'_toNat, toNat_W n (by omega), Nat.shiftRight_eq_div_pow, Nat.mul_div_cancel _ (by positivity), Nat.mod_eq_of_lt (by omega)]
  have hf : ((W n).extractLsb' 0 23).toNat = 0 := by
    rw [BitVec.extractLsb'_toNat, toNat_W n (by omega), Nat.shiftRight_zero, Nat.mul_mod_left]
  show Ideal.ieee 8 23 (W n) = P n
  unfold Ideal.ieee P
  simp only [hs, he, hf]
  by_cases h0 : n = 0
  · subst h0; simp
  · by_cases h1 : n ≤ 254
    · rw [if_neg (by omega), if_neg h0, if_neg h0, if_pos h1]
      congr 1
      have : ((n : ℤ) - (2 ^ (8 - 1) - 1 : ℤ) - (23 : ℕ)) = ((n : ℤ) - 127) - 23 := by norm_num
      rw [this, zpow_sub₀ (by norm_num)]
      simp only [show ((0#1 : BitVec 1) == 1#1) = false from rfl]
      norm_num
      ring
    · rw [if_pos (by omega), if_neg h0, if_neg h1]; simp

theorem P_zero : P 0 = 0 := rfl
theorem P_of (n : ℕ) (h0 : n ≠ 0) (h1 : n ≤ 254) : P n = (((2 : ℝ) ^ ((n : ℤ) - 127) : ℝ) : EReal) := by rw [P, if_neg h0, if_pos h1]
theorem P_top (n : ℕ) (h : 254 < n) : P n = ⊤ := by rw [P, if_neg (by omega), if_neg (by omega)]

theorem P_pos (n : ℕ) (h : 0 < n) : 0 < P n := by
  by_cases h1 : n ≤ 254
  · rw [P_of n (by omega) h1]; exact_mod_cast (by positivity : (0 : ℝ) < 2 ^ ((n : ℤ) - 127))
  · rw [P_top n (by omega)]; exact EReal.zero_lt_top

theorem P_mono : Monotone P := by
  intro a b hab
  by_cases hb : b ≤ 254
  · by_cases ha : a = 0
    · subst ha
      rcases Nat.eq_zero_or_pos b with h | h
      · subst h; exact le_rfl
      · exact (P_pos b h).le
    · rw [P_of a ha (by omega), P_of b (by omega) hb]
      exact EReal.coe_le_coe_iff.mpr (zpow_le_zpow_right₀ (by norm_num : (1 : ℝ) ≤ 2) (by omega))
  · rw [P_top b (by omega)]; exact le_top

/-! ## The search -/

/-- One step of the search: the bit is kept if the float of the word with it is at most `q`. -/
def step (b : BitVec 32) (q : EReal) (w : BitVec 32) : BitVec 32 := if Ideal.ofBits .f32 (w ||| b) ≤ q then w ||| b else w

/-- The eight steps. -/
def field (q : EReal) : BitVec 32 :=
  step 8388608#32 q <| step 16777216#32 q <| step 33554432#32 q <| step 67108864#32 q <| step 134217728#32 q <|
    step 268435456#32 q <| step 536870912#32 q <| step 1073741824#32 q 0#32

theorem W_or (n j : ℕ) (hj : j < 8) (hn : n < 256) (hd : 2 ^ (j + 1) ∣ n) : W n ||| W (2 ^ j) = W (n + 2 ^ j) := by
  obtain ⟨k, rfl⟩ := hd
  have hj2 : 2 ^ (j + 1) * k + 2 ^ j < 512 := by
    have : 2 ^ j < 256 := by
      calc 2 ^ j < 2 ^ 8 := Nat.pow_lt_pow_right (by norm_num) hj
        _ = 256 := by norm_num
    omega
  have hjj : 2 ^ j < 256 := by
    calc 2 ^ j < 2 ^ 8 := Nat.pow_lt_pow_right (by norm_num) hj
      _ = 256 := by norm_num
  apply BitVec.eq_of_toNat_eq
  rw [BitVec.toNat_or, toNat_W _ (by omega), toNat_W _ (by omega), toNat_W _ hj2, Nat.add_mul,
    show 2 ^ (j + 1) * k * 2 ^ 23 = 2 ^ (j + 1 + 23) * k by rw [pow_add _ (j + 1) 23]; ring,
    show 2 ^ j * 2 ^ 23 = 2 ^ (j + 23) by rw [pow_add]]
  exact (Nat.two_pow_add_eq_or_of_lt (Nat.pow_lt_pow_right (by norm_num) (by omega)) k).symm

/-- What the search keeps: before the bit of `2^j` the word is of a multiple of `2^(j+1)`, and `q` is between it and the next. -/
structure Inv (q : EReal) (j : ℕ) (w : BitVec 32) (n : ℕ) : Prop where
  word : w = W n
  dvd : 2 ^ j ∣ n
  lt : n < 256
  le : P n ≤ q
  gt : q < P (n + 2 ^ j)

theorem Inv.step {q : EReal} {j : ℕ} {w : BitVec 32} {n : ℕ} (h : Inv q (j + 1) w n) (hj : j < 8) :
    ∃ n', Inv q j (step (W (2 ^ j)) q w) n' := by
  have hw : w ||| W (2 ^ j) = W (n + 2 ^ j) := by rw [h.word]; exact W_or n j hj h.lt h.dvd
  have hd := h.dvd
  have hlt : n + 2 ^ j < 256 := by
    have h1 := h.lt
    have e : 256 = 2 ^ (j + 1) * 2 ^ (7 - j) := by rw [← pow_add, show j + 1 + (7 - j) = 8 by omega]; norm_num
    obtain ⟨k, rfl⟩ := hd
    have : k < 2 ^ (7 - j) := by rw [e] at h1; exact Nat.lt_of_mul_lt_mul_left h1
    have h2 : 2 ^ (j + 1) * (k + 1) ≤ 256 := by rw [e]; exact Nat.mul_le_mul_left _ this
    have h3 : 0 < 2 ^ j := by positivity
    rw [Nat.mul_add, pow_succ] at h2
    rw [pow_succ]; omega
  have hdj : 2 ^ j ∣ n := Nat.dvd_trans (pow_dvd_pow 2 (by omega)) hd
  unfold Exponent.step
  rw [hw, ofBits_W _ (by omega)]
  by_cases hq : P (n + 2 ^ j) ≤ q
  · rw [if_pos hq]
    refine ⟨n + 2 ^ j, rfl, Dvd.dvd.add hdj (dvd_refl _), hlt, hq, ?_⟩
    have := h.gt; rwa [pow_succ, Nat.mul_two, ← Nat.add_assoc] at this
  · rw [if_neg hq]
    exact ⟨n, h.word, hdj, h.lt, h.le, not_le.mp hq⟩

/-- The search's word is that of the one `n` with `P n ≤ q < P (n + 1)`. -/
theorem field_spec (q : EReal) (h0 : 0 ≤ q) (h1 : q < ⊤) : ∃ n, n ≤ 254 ∧ field q = W n ∧ P n ≤ q ∧ q < P (n + 1) := by
  have i8 : Inv q 8 0#32 0 := ⟨by decide, dvd_zero _, by norm_num, h0, by rw [P_top _ (by norm_num)]; exact h1⟩
  obtain ⟨n7, i7⟩ := i8.step (by norm_num)
  obtain ⟨n6, i6⟩ := i7.step (by norm_num)
  obtain ⟨n5, i5⟩ := i6.step (by norm_num)
  obtain ⟨n4, i4⟩ := i5.step (by norm_num)
  obtain ⟨n3, i3⟩ := i4.step (by norm_num)
  obtain ⟨n2, i2⟩ := i3.step (by norm_num)
  obtain ⟨n1, i1⟩ := i2.step (by norm_num)
  obtain ⟨n, i0⟩ := i1.step (by norm_num)
  refine ⟨n, ?_, i0.word, i0.le, i0.gt⟩
  by_contra hc
  have := i0.le
  rw [P_top n (by omega)] at this
  exact absurd (lt_of_le_of_lt this h1) (lt_irrefl _)

open Classical in
/-- The exponent field of the largest float with fraction 0 that is at most `q`. -/
def nOf (q : EReal) : ℕ := Nat.findGreatest (fun n => P n ≤ q) 254

theorem nOf_eq (q : EReal) (n : ℕ) (h : n ≤ 254) (hl : P n ≤ q) (hg : q < P (n + 1)) : nOf q = n := by
  classical
  unfold nOf
  rw [Nat.findGreatest_eq_iff]
  refine ⟨h, fun _ => hl, fun k hk _ hP => ?_⟩
  exact absurd (lt_of_le_of_lt (le_trans (P_mono hk) hP) hg) (lt_irrefl _)

theorem le_nOf (q : EReal) (h0 : 0 ≤ q) (k : ℕ) (hk : k ≤ 254) : k ≤ nOf q ↔ P k ≤ q := by
  classical
  constructor
  · intro h
    refine le_trans (P_mono h) ?_
    exact Nat.findGreatest_spec (P := fun n => P n ≤ q) (Nat.zero_le 254) (by rw [P_zero]; exact h0)
  · exact fun h => Nat.le_findGreatest hk h

theorem nOf_le (q : EReal) : nOf q ≤ 254 := Nat.findGreatest_le 254

/-- The exponent `e` with `2^(e-1) ≤ q < 2^e`, and 0 below 2^-126. -/
def eOf (q : EReal) : ℤ := if nOf q = 0 then 0 else (nOf q : ℤ) - 126

theorem eOf_ge (q : EReal) : -125 ≤ eOf q := by unfold eOf; split <;> omega

theorem field_eq (q : EReal) (h0 : 0 ≤ q) (h1 : q < ⊤) : field q = W (nOf q) := by
  obtain ⟨n, hn, hw, hl, hg⟩ := field_spec q h0 h1
  rw [hw, nOf_eq q n hn hl hg]

/-- A number below 2^120 has an exponent at most 120. -/
theorem eOf_le (q : EReal) (h0 : 0 ≤ q) (h : q < (((2 : ℝ) ^ (120 : ℤ) : ℝ) : EReal)) : eOf q ≤ 120 := by
  have : ¬ 247 ≤ nOf q := by
    rw [le_nOf q h0 247 (by norm_num), P_of _ (by norm_num) (by norm_num)]
    rw [not_le, show ((247 : ℕ) : ℤ) - 127 = 120 by norm_num]
    exact h
  unfold eOf; split <;> omega

/-- The reference's exponent of `q`. -/
theorem ref_eq (q : EReal) (h0 : 0 ≤ q) (g : Fin 254 → EReal)
    (hg : ∀ k, g k = if (((2 : ℝ) ^ ((k.val : ℤ) - 126) : ℝ) : EReal) ≤ q then (((k.val : ℝ) - 125 : ℝ) : EReal) else ((-126 : ℝ) : EReal))
    (b : EReal) (hb : b = ⊥) (M : EReal) (hM1 : ∀ k, g k ≤ M) (hM2 : M = b ∨ ∃ k, M = g k) :
    (if M = ((-126 : ℝ) : EReal) then 0 else M) = ((eOf q : ℝ) : EReal) := by
  have hk : ∀ k : Fin 254, (((2 : ℝ) ^ ((k.val : ℤ) - 126) : ℝ) : EReal) ≤ q ↔ k.val + 1 ≤ nOf q := fun k => by
    rw [le_nOf q h0 _ (by have := k.isLt; omega), P_of _ (by omega) (by have := k.isLt; omega)]
    have : (((k.val + 1 : ℕ) : ℤ) - 127) = (k.val : ℤ) - 126 := by push_cast; ring
    rw [this]
  simp only [hk] at hg
  have hn := nOf_le q
  unfold eOf
  by_cases h : nOf q = 0
  · have hg' : ∀ k, g k = ((-126 : ℝ) : EReal) := fun k => by rw [hg k, if_neg (by omega)]
    have : M = ((-126 : ℝ) : EReal) := by
      rcases hM2 with h2 | ⟨k, h2⟩
      · have := hM1 0; rw [h2, hb, hg'] at this
        exact absurd (le_bot_iff.mp this) (EReal.coe_ne_bot _)
      · rw [h2, hg']
    rw [if_pos this, if_pos h]; simp
  · have hM : M = (((nOf q : ℝ) - 126 : ℝ) : EReal) := by
      apply le_antisymm
      · rcases hM2 with h2 | ⟨k, h2⟩
        · rw [h2, hb]; exact bot_le
        · rw [h2, hg k]
          split
          · rename_i h3
            have : (k.val : ℝ) + 1 ≤ nOf q := by exact_mod_cast h3
            exact_mod_cast (by linarith : (k.val : ℝ) - 125 ≤ (nOf q : ℝ) - 126)
          · have : (0 : ℝ) ≤ nOf q := by positivity
            exact_mod_cast (by linarith : (-126 : ℝ) ≤ (nOf q : ℝ) - 126)
      · have h3 := hM1 ⟨nOf q - 1, by omega⟩
        rw [hg, if_pos (by simp only; omega)] at h3
        refine le_trans (le_of_eq ?_) h3
        congr 1
        have : ((nOf q - 1 : ℕ) : ℝ) = (nOf q : ℝ) - 1 := by rw [Nat.cast_sub (by omega)]; norm_num
        simp only [this]; ring
    rw [if_neg ?_, if_neg h, hM]
    · push_cast; rfl
    · rw [hM]
      have : (0 : ℝ) < nOf q := by exact_mod_cast Nat.pos_of_ne_zero h
      intro hc
      have := EReal.coe_injective hc
      linarith

/-! ## The words of the exponent -/

theorem field_shift (q : EReal) (h0 : 0 ≤ q) (h1 : q < ⊤) : (field q).sshiftRight 23 &&& 255#32 = BitVec.ofNat 32 (nOf q) := by
  rw [field_eq q h0 h1]
  have := nOf_le q
  generalize nOf q = n at this
  have h2 : ∀ n : Fin 255, (W n.val).sshiftRight 23 &&& 255#32 = BitVec.ofNat 32 n.val := by decide +kernel
  exact h2 ⟨n, by omega⟩

/-- The float whose word is the exponent plus its bias, moved into place. -/
theorem pow2_eq (e : ℤ) (hl : -126 ≤ e) (hh : e ≤ 127) :
    Ideal.ofBits .f32 ((BitVec.ofInt 32 e + 127#32) <<< 23) = (((2 : ℝ) ^ e : ℝ) : EReal) := by
  have h : ∀ n : Fin 254, (BitVec.ofInt 32 ((n.val : ℤ) - 126) + 127#32) <<< 23 = W (n.val + 1) := by decide +kernel
  obtain ⟨n, hn⟩ : ∃ n : Fin 254, (n.val : ℤ) - 126 = e := ⟨⟨(e + 126).toNat, by omega⟩, by simp only; omega⟩
  rw [← hn, h n, ofBits_W _ (by have := n.isLt; omega), P_of _ (by omega) (by have := n.isLt; omega)]
  congr 2; push_cast; ring

end Cert.Exponent

end
-- ==== Proof.Spec.lean ====
/-
  What the five results are, over the extended reals, as functions of the two arguments read at natural coordinates: the largest
  magnitude of a group or block, its exponent, the codes, the scales and the product.
-/
module

public import proofs.«01_k».proof.Proof.Exponent

@[expose] public section

noncomputable section

namespace Cert.Spec

open Idealize.ShloMosaic Cert.Exponent

/-- The constant that stands for 1/448. -/
def cst : EReal := Ideal.ofBits .f32 0x3B124925#32

/-- The bound that the precondition puts on every element. -/
def big : EReal := Ideal.ofBits .f32 0x7F7F0000#32

theorem cst_eq : cst = (((1 + 1198373 / 8388608) * 2 ^ (-9 : ℤ) : ℝ) : EReal) := by
  unfold cst
  simp [Ideal.ofBits, Ideal.ieee, -EReal.coe_mul]
  norm_num

theorem big_eq : big = (((1 + 127 / 128) * 2 ^ (127 : ℤ) : ℝ) : EReal) := by
  unfold big
  simp [Ideal.ofBits, Ideal.ieee, -EReal.coe_mul]
  norm_num

theorem cst_nonneg : 0 ≤ cst := by
  rw [cst_eq]; exact_mod_cast (by positivity : (0 : ℝ) ≤ (1 + 1198373 / 8388608) * 2 ^ (-9 : ℤ))

/-- The magnitude. -/
def absE (v : EReal) : EReal := max v (-v)

theorem absE_nonneg (v : EReal) : 0 ≤ absE v := by
  rcases le_total 0 v with h | h
  · exact le_max_of_le_left h
  · exact le_max_of_le_right (by simpa using EReal.neg_le_neg_iff.mpr h)

/-- The largest magnitude of a group of 128 of a row. -/
def aX (X : ℕ → ℕ → EReal) (r g : ℕ) : EReal := ⨆ l : Fin 128, absE (X r (128 * g + l.val))

/-- The largest magnitude of a block of 128 x 128. -/
def aW (A : ℕ → ℕ → EReal) (i j : ℕ) : EReal := ⨆ (p : Fin 128) (l : Fin 128), absE (A (128 * i + p.val) (128 * j + l.val))

theorem aX_nonneg (X : ℕ → ℕ → EReal) (r g : ℕ) : 0 ≤ aX X r g :=
  le_trans (absE_nonneg _) (le_iSup (fun l : Fin 128 => absE (X r (128 * g + l.val))) 0)

theorem aW_nonneg (A : ℕ → ℕ → EReal) (i j : ℕ) : 0 ≤ aW A i j :=
  le_trans (absE_nonneg _) (le_trans (le_iSup (fun l : Fin 128 => absE (A (128 * i + (0 : Fin 128).val) (128 * j + l.val))) 0)
    (le_iSup (fun p : Fin 128 => ⨆ l : Fin 128, absE (A (128 * i + p.val) (128 * j + l.val))) 0))

/-- A number is the largest magnitude of a group if it has the same upper bounds. -/
theorem eq_aX (X : ℕ → ℕ → EReal) (r g : ℕ) (M : EReal) (h : ∀ c, M ≤ c ↔ ∀ l : Fin 128, absE (X r (128 * g + l.val)) ≤ c) : M = aX X r g :=
  eq_of_forall_ge_iff fun c => by rw [h c]; unfold aX; exact iSup_le_iff.symm

theorem eq_aW (A : ℕ → ℕ → EReal) (i j : ℕ) (M : EReal)
    (h : ∀ c, M ≤ c ↔ ∀ p l : Fin 128, absE (A (128 * i + p.val) (128 * j + l.val)) ≤ c) : M = aW A i j :=
  eq_of_forall_ge_iff fun c => by rw [h c]; unfold aW; simp only [iSup_le_iff]

/-- The exponent that goes with a largest magnitude. -/
def ex (a : EReal) : ℤ := eOf (a * cst)

/-- Two to an exponent. -/
def p2 (e : ℤ) : EReal := (((2 : ℝ) ^ e : ℝ) : EReal)

theorem quot_nonneg (a : EReal) (h : 0 ≤ a) : 0 ≤ a * cst := mul_nonneg h cst_nonneg

theorem quot_lt (a : EReal) (h : a ≤ big) : a * cst < (((2 : ℝ) ^ (120 : ℤ) : ℝ) : EReal) := by
  refine lt_of_le_of_lt (mul_le_mul_of_nonneg_right h cst_nonneg) ?_
  rw [big_eq, cst_eq, ← EReal.coe_mul]
  exact_mod_cast (by norm_num : ((1 + 127 / 128) * 2 ^ (127 : ℤ) : ℝ) * ((1 + 1198373 / 8388608) * 2 ^ (-9 : ℤ)) < (2 : ℝ) ^ (120 : ℤ))

theorem ex_ge (a : EReal) : -125 ≤ ex a := eOf_ge _
theorem ex_le (a : EReal) (h0 : 0 ≤ a) (h : a ≤ big) : ex a ≤ 120 := eOf_le _ (quot_nonneg a h0) (quot_lt a h)
theorem ex_le' (a : EReal) : ex a ≤ 128 := by
  unfold ex eOf; have := nOf_le (a * cst); split <;> omega

/-- A code: an element divided by its scale and clipped. -/
def code (v : EReal) (e : ℤ) : EReal := min (Ideal.ofBits .f32 0x43E00000#32) (max (Ideal.ofBits .f32 0xC3E00000#32) (v * p2 (-e)))

/-- The activation's codes. -/
def xc (X : ℕ → ℕ → EReal) (r k : ℕ) : EReal := code (X r k) (ex (aX X r (k / 128)))

/-- The weight's codes. -/
def wc (A : ℕ → ℕ → EReal) (k n : ℕ) : EReal := code (A k n) (ex (aW A (k / 128) (n / 128)))

/-- The activation's scales. -/
def xs (X : ℕ → ℕ → EReal) (r g : ℕ) : BitVec 8 := BitVec.ofInt 8 (ex (aX X r g) + 127)

/-- The weight's scales. -/
def ws (A : ℕ → ℕ → EReal) (i j : ℕ) : BitVec 32 := BitVec.ofInt 32 (ex (aW A i j) + 127)

/-- The activation's codes, scaled back. -/
def xd (X : ℕ → ℕ → EReal) (r k : ℕ) : EReal := xc X r k * p2 (ex (aX X r (k / 128)))

/-- The weight's codes, scaled back. -/
def wd (A : ℕ → ℕ → EReal) (k n : ℕ) : EReal := wc A k n * p2 (ex (aW A (k / 128) (n / 128)))

/-- The product. -/
def y (X A : ℕ → ℕ → EReal) (r n : ℕ) : EReal := ∑ k ∈ Finset.range 4096, xd X r k * wd A k n

/-! ## The arguments at natural coordinates -/

/-- The index of the activation at natural coordinates. -/
def iXR (r k : ℕ) : (⟨3, ![16, 1, 4096]⟩ : Shape).Idx := fun a =>
  match a with
  | ⟨0, _⟩ => ⟨r % 16, Nat.mod_lt _ (by norm_num)⟩
  | ⟨1, _⟩ => ⟨0, Nat.one_pos⟩
  | ⟨2, _⟩ => ⟨k % 4096, Nat.mod_lt _ (by norm_num)⟩

/-- The index of the weight at natural coordinates. -/
def iAR (k n : ℕ) : (⟨2, ![4096, 6144]⟩ : Shape).Idx := fun a =>
  match a with
  | ⟨0, _⟩ => ⟨k % 4096, Nat.mod_lt _ (by norm_num)⟩
  | ⟨1, _⟩ => ⟨n % 6144, Nat.mod_lt _ (by norm_num)⟩

/-- The activation at natural coordinates. -/
def xN (x : (⟨3, ![16, 1, 4096]⟩ : Shape).Idx → EReal) (r k : ℕ) : EReal := x (iXR r k)

/-- The weight at natural coordinates. -/
def aN (w : (⟨2, ![4096, 6144]⟩ : Shape).Idx → EReal) (k n : ℕ) : EReal := w (iAR k n)

/-! ## The results as arrays -/

/-- The product as an array. -/
def resY (X A : ℕ → ℕ → EReal) : (⟨2, ![16, 6144]⟩ : Shape).Idx → EReal := fun z => y X A (z 0).val (z 1).val

/-- The activation's codes as an array. -/
def resXC (X : ℕ → ℕ → EReal) : (⟨2, ![16, 4096]⟩ : Shape).Idx → EReal := fun z => xc X (z 0).val (z 1).val

/-- The activation's scales as an array. -/
def resXS (X : ℕ → ℕ → EReal) : (⟨2, ![16, 32]⟩ : Shape).Idx → BitVec 8 := fun z => xs X (z 0).val (z 1).val

/-- The weight's codes as an array. -/
def resWC (A : ℕ → ℕ → EReal) : (⟨2, ![4096, 6144]⟩ : Shape).Idx → EReal := fun z => wc A (z 0).val (z 1).val

/-- The weight's scales as an array. -/
def resWS (A : ℕ → ℕ → EReal) : (⟨2, ![32, 48]⟩ : Shape).Idx → BitVec 32 := fun z => ws A (z 0).val (z 1).val

end Cert.Spec

end
-- ==== Proof.VocabIdeal.lean ====
/-
  The named operations read over the extended reals: the exponent of a vector of maxima, the largest magnitude of a block, its codes and
  its part of the product.
-/
module

public import proofs.«01_k».proof.Proof.Spec
public import proofs.«01_k».proof.Proof.Chains
public import Idealize.ShloMosaic.Lib.Pipeline.Value
public import Idealize.ShloMosaic.Lib.Pointwise
public import Idealize.ShloMosaic.Lib.MatmulPlain

@[expose] public section

set_option maxRecDepth 16384

noncomputable section

namespace Cert.KernelIdeal.Hand

open Idealize.ShloMosaic Idealize.ShloMosaic.TcCoe
open Cert.KernelIdeal.Gen Cert.Spec

/-! ## The exponent -/

theorem srch_apply {s : Shape} (b : BitVec 32) (q : FVec Ideal s .f32) (w : IVec s 32) (z : s.Idx) :
    srch b q w z = Exponent.step b (q z) (w z) := by
  unfold srch Exponent.step
  show (if Ideal.cmp .oge (q z) (Ideal.ofBits .f32 (w z ||| b)) = 1#1 then w z ||| b else w z) = _
  by_cases h : Ideal.ofBits .f32 (w z ||| b) ≤ q z <;> simp [Ideal.cmp, h]

theorem fieldV_apply {s : Shape} (q : FVec Ideal s .f32) (z : s.Idx) : fieldV q z = Exponent.field (q z) := by
  unfold fieldV Exponent.field
  simp only [srch_apply]
  rfl

theorem biased_apply {s : Shape} (q : FVec Ideal s .f32) (z : s.Idx) (h0 : 0 ≤ q z) (h1 : q z < ⊤) :
    biased q z = BitVec.ofNat 32 (Exponent.nOf (q z)) := by
  rw [← Exponent.field_shift _ h0 h1, ← fieldV_apply]
  rfl

theorem expo_apply {s : Shape} (a : FVec Ideal s .f32) (z : s.Idx) (h0 : 0 ≤ a z) (h1 : a z ≤ big) :
    expo a z = BitVec.ofInt 32 (ex (a z)) := by
  have hq0 := quot_nonneg _ h0
  have hq1 := quot_lt _ h1
  have hqt : a z * cst < ⊤ := lt_of_lt_of_le hq1 le_top
  have hb : biased (mulf a (broadcast s (Scalar.ofBits (F := Ideal) .f32 0x3B124925#32))) z = BitVec.ofNat 32 (Exponent.nOf (a z * cst)) :=
    biased_apply _ z hq0 hqt
  have hz : a z = 0 → Exponent.nOf (a z * cst) = 0 := fun h => by
    by_contra hn
    have := (Exponent.le_nOf (a z * cst) hq0 1 (by norm_num)).mp (by omega)
    rw [h, zero_mul] at this
    exact absurd (Exponent.P_pos 1 (by norm_num)) (not_lt.mpr this)
  have hle := Exponent.nOf_le (a z * cst)
  unfold expo expoOf
  show (if ((IntOp.cmpi .eq (biased _ z) 0#32 ||| IntOp.cmpi .eq (biased _ z) 255#32) ||| Ideal.cmp .oeq (a z) (Ideal.ofBits .f32 0x00000000#32)) = 1#1
    then 0#32 else biased _ z - 126#32) = _
  rw [hb, Ideal.ofBits_zero_f32]
  unfold ex Exponent.eOf
  generalize Exponent.nOf (a z * cst) = n at hz hle
  have hn : ∀ n : Fin 255, (if (IntOp.cmpi .eq (BitVec.ofNat 32 n.val) 0#32 ||| IntOp.cmpi .eq (BitVec.ofNat 32 n.val) 255#32) ||| 0#1 = 1#1
      then 0#32 else BitVec.ofNat 32 n.val - 126#32) = BitVec.ofInt 32 (if n.val = 0 then 0 else (n.val : ℤ) - 126) := by decide +kernel
  by_cases h : a z = 0
  · rw [hz h]
    simp [Ideal.cmp, h]
    decide
  · rw [show Ideal.cmp .oeq (a z) 0 = 0#1 by simp [Ideal.cmp, h]]
    exact hn ⟨n, by omega⟩

theorem pow2_apply {s : Shape} (e : IVec s 32) (z : s.Idx) (n : ℤ) (h : e z = BitVec.ofInt 32 n) (hl : -126 ≤ n) (hh : n ≤ 127) :
    pow2 (F := Ideal) e z = p2 n := by
  unfold p2
  rw [← Exponent.pow2_eq n hl hh, ← h]
  rfl

theorem pow2n_apply {s : Shape} (e : IVec s 32) (z : s.Idx) (n : ℤ) (h : e z = BitVec.ofInt 32 n) (hl : -127 ≤ n) (hh : n ≤ 126) :
    pow2n (F := Ideal) e z = p2 (-n) := by
  unfold pow2n
  refine pow2_apply _ z (-n) ?_ (by omega) (by omega)
  show 0#32 - e z = _
  rw [h, BitVec.ofInt_neg]
  simp

/-! ## Maxima -/

theorem ofBits_neg_inf : Ideal.ofBits .f32 0xFF800000#32 = ⊥ := by simp [Ideal.ofBits, Ideal.ieee]
theorem ofBits_neg_inf16 : Ideal.ofBits .bf16 0xFF80#16 = ⊥ := by simp [Ideal.ofBits, Ideal.ieee]

/-- A maximum reduction has the upper bounds of the elements it reduces. -/
theorem reduce_le {s t : Shape} {φ : FTy} {axes : List (Fin s.rank)} (src : FVec Ideal s φ) (acc : BitVec φ.bits) (h : s.Reduces axes t)
    (hφ : FKind.Formats φ) (hacc : acc = FKind.maximumf.neutral φ hφ) (hb : Ideal.ofBits φ acc = ⊥) (j : t.Idx) (c : EReal) :
    (show EReal from multiReduction .maximumf axes t src acc h hφ hacc j) ≤ c ↔ ∀ i, h.drop i = j → (show EReal from src i) ≤ c := by
  rw [multiReduction_maximumf_eq_fold]
  show (Finset.univ.filter fun i => h.drop i = j).fold max (Ideal.ofBits φ acc) src ≤ c ↔ _
  rw [Finset.fold_max_le, hb]
  simp

theorem rm1 {a : ℕ} (i : (⟨1, ![a]⟩ : Shape).Idx) : ((⟨1, ![a]⟩ : Shape).rowMajor i).val = (i 0).val := Shape.rowMajor_val_one i
theorem rm2 {a b : ℕ} (i : (⟨2, ![a, b]⟩ : Shape).Idx) : ((⟨2, ![a, b]⟩ : Shape).rowMajor i).val = (i 0).val * b + (i 1).val := Shape.rowMajor_val_two i
theorem rm3 {a b c : ℕ} (i : (⟨3, ![a, b, c]⟩ : Shape).Idx) :
    ((⟨3, ![a, b, c]⟩ : Shape).rowMajor i).val = ((i 0).val * b + (i 1).val) * c + (i 2).val := Shape.rowMajor_val_three i
theorem rm4 {a b c d : ℕ} (i : (⟨4, ![a, b, c, d]⟩ : Shape).Idx) :
    ((⟨4, ![a, b, c, d]⟩ : Shape).rowMajor i).val = (((i 0).val * b + (i 1).val) * c + (i 2).val) * d + (i 3).val := Shape.rowMajor_val_four i

/-- The inner maximum of a block, along its eight pieces. -/
def wInner (b : Vec Ideal S128x128 .bf16) : FVec Ideal S16x128 .bf16 :=
  multiReduction .maximumf [0] S16x128 (shapeCast S8x16x128 (absf b) shapeCasts_S128x128_S8x16x128) 0xFF80#16 reduces_S8x16x128_S16x128 (.inr rfl) rfl

theorem wInner_le (b : Vec Ideal S128x128 .bf16) (z : S16x128.Idx) (c : EReal) :
    (wInner b z : EReal) ≤ c ↔ ∀ q : Fin 8, absE (b (iB (16 * q.val + (z 0).val) (z 1).val)) ≤ c := by
  have z0 := idx2_lt0 z
  have z1 := idx2_lt1 z
  refine (reduce_le _ _ reduces_S8x16x128_S16x128 _ _ ofBits_neg_inf16 z c).trans ?_
  have hs : ∀ i : S8x16x128.Idx, (shapeCast S8x16x128 (absf (F := Ideal) (s := S128x128) (φ := .bf16) b) shapeCasts_S128x128_S8x16x128 i : EReal)
      = absE (b (iB (16 * (i 0).val + (i 1).val) (i 2).val)) := fun i => by
    have i0 : (i 0).val < 8 := (i 0).isLt
    have i1 : (i 1).val < 16 := (i 1).isLt
    have i2 : (i 2).val < 128 := (i 2).isLt
    rw [shapeCast_apply _ shapeCasts_S128x128_S8x16x128 i (iB (16 * (i 0).val + (i 1).val) (i 2).val)
      (((rm2 _).trans (by rw [ix2_0, ix2_1]; omega)).trans (rm3 i).symm)]
    rfl
  constructor
  · intro h q
    have := h (ix3 q ⟨(z 0).val, z0⟩ ⟨(z 1).val, z1⟩) (idx2_ext
      (Shape.Reduces.drop_apply_val_of_eq reduces_S8x16x128_S16x128 _ 0 1) (Shape.Reduces.drop_apply_val_of_eq reduces_S8x16x128_S16x128 _ 1 2))
    rw [hs] at this
    exact this
  · intro h i hi
    have h0 : (i 1).val = (z 0).val := by rw [← hi]; exact (Shape.Reduces.drop_apply_val_of_eq _ _ 0 1).symm
    have h1 : (i 2).val = (z 1).val := by rw [← hi]; exact (Shape.Reduces.drop_apply_val_of_eq _ _ 1 2).symm
    have := h (i 0)
    rw [← h0, ← h1] at this
    show (shapeCast S8x16x128 (absf (F := Ideal) (s := S128x128) (φ := .bf16) b) shapeCasts_S128x128_S8x16x128 i : EReal) ≤ c
    rw [hs]
    exact this

theorem spread_apply (M : FVec Ideal S1 .f32) (z : S8x128.Idx) :
    broadcastTo S8x128 (shapeCast S1x1 (broadcast S1x1 (extractAt ![0, 0, 0] (shapeCast S1x1x1 M shapeCasts_S1_S1x1x1) inpos_S1x1x1_p0_0_0))
      shapeCasts_S1x1_S1x1) broadcasts_S1x1_S8x128 z
      = M (Shape.reshapeEquiv shapeCasts_S1_S1x1x1 (fun a => ⟨(![0, 0, 0] : Fin 3 → ℕ) a, inpos_S1x1x1_p0_0_0 a⟩)) := rfl

theorem idx1_ext {n : ℕ} {x y : (⟨1, ![n]⟩ : Shape).Idx} (h : (x 0).val = (y 0).val) : x = y :=
  funext fun k => match k with
    | ⟨0, _⟩ => Fin.ext h

theorem wAmax_le (b : Vec Ideal S128x128 .bf16) (z : S8x128.Idx) (c : EReal) :
    (wAmax b z : EReal) ≤ c ↔ ∀ p l : Fin 128, absE (b (iB p.val l.val)) ≤ c := by
  obtain ⟨j, hj⟩ : ∃ j, wAmax b z = multiReduction .maximumf [1, 2] S1
      (shapeCast S1x16x128 (extf .f32 (wInner b) bitsLt_bf16_f32) shapeCasts_S16x128_S1x16x128) 0xFF800000#32 reduces_S1x16x128_S1 (.inl rfl) rfl j :=
    ⟨_, spread_apply _ z⟩
  rw [hj]
  refine (reduce_le _ _ reduces_S1x16x128_S1 _ _ ofBits_neg_inf j c).trans ?_
  have hs' : ∀ (W : FVec Ideal S16x128 .bf16) (i : S1x16x128.Idx), shapeCast S1x16x128 (extf .f32 W bitsLt_bf16_f32) shapeCasts_S16x128_S1x16x128 i
      = W (iR (i 1).val (i 2).val) := fun W i => by
    have i0 : (i 0).val < 1 := (i 0).isLt
    have i1 : (i 1).val < 16 := (i 1).isLt
    have i2 : (i 2).val < 128 := (i 2).isLt
    rw [shapeCast_apply _ shapeCasts_S16x128_S1x16x128 i (iR (i 1).val (i 2).val)
      (((rm2 _).trans (by rw [ix2_0, ix2_1]; omega)).trans (rm3 i).symm)]
    rfl
  have hs := hs' (wInner b)
  constructor
  · intro h p l
    have := h (ix3 0 ⟨p.val % 16, Nat.mod_lt _ (by norm_num)⟩ l) (funext fun a => Fin.ext (by
      have h1 := (j a).isLt
      have h2 := ((reduces_S1x16x128_S1 : S1x16x128.Reduces [1, 2] S1).drop (ix3 0 ⟨p.val % 16, Nat.mod_lt _ (by norm_num)⟩ l) a).isLt
      have h3 : S1.size a = 1 := by match a with | ⟨0, _⟩ => rfl
      omega))
    have h' : (wInner b (iR (p.val % 16) l.val) : EReal) ≤ c := (hs (ix3 0 ⟨p.val % 16, Nat.mod_lt _ (by norm_num)⟩ l)).symm.trans_le this
    have := (wInner_le b _ c).mp h' ⟨p.val / 16, by omega⟩
    rw [ix2_0, ix2_1] at this
    rw [show (iB p.val l.val : S128x128.Idx) = iB (16 * (p.val / 16) + p.val % 16 % 16) (l.val % 128) from idx2_ext
      (by rw [ix2_0, ix2_0]; omega) (by rw [ix2_1, ix2_1]; omega)]
    exact this
  · intro h i _
    show (shapeCast S1x16x128 (extf .f32 (wInner b) bitsLt_bf16_f32) shapeCasts_S16x128_S1x16x128 i : EReal) ≤ c
    rw [hs]
    refine (wInner_le b _ c).mpr fun q => ?_
    have i1 : (i 1).val < 16 := (i 1).isLt
    have i2 : (i 2).val < 128 := (i 2).isLt
    have := h ⟨16 * q.val + (i 1).val, by omega⟩ ⟨(i 2).val, i2⟩
    rw [ix2_0, ix2_1, Nat.mod_eq_of_lt i1, Nat.mod_eq_of_lt i2]
    exact this

theorem xAmax_le (b : Vec Ideal S16x128 .bf16) (z : S16x128.Idx) (c : EReal) :
    (xAmax b z : EReal) ≤ c ↔ ∀ l : Fin 128, absE (b (iR (z 0).val l.val)) ≤ c := by
  have z0 := idx2_lt0 z
  have hj : xAmax b z = multiReduction .maximumf [1] S16 (absf (xWide b)) 0xFF800000#32 reduces_S16x128_S16 (.inl rfl) rfl (ix1 ⟨(z 0).val, z0⟩) := by
    unfold xAmax
    rw [broadcastTo_apply _ broadcasts_S16x1_S16x128 z (ix2 (n := 16) (m := 1) (by omega) (by omega) (z 0).val 0)
      (fun a => by match a with | ⟨0, _⟩ => exact Nat.mod_eq_of_lt z0 | ⟨1, _⟩ => rfl),
      shapeCast_apply _ shapeCasts_S16x1_S16x1 _ _ rfl,
      shapeCast_apply _ shapeCasts_S16_S16x1 _ (ix1 ⟨(z 0).val, z0⟩) ((rm1 _).trans (Eq.trans (by rw [ix2_0, ix2_1, ix1_0]; show (z 0).val = _; omega) (rm2 _).symm))]
  rw [hj]
  refine (reduce_le _ _ reduces_S16x128_S16 _ _ ofBits_neg_inf _ c).trans ?_
  have hs : ∀ i : S16x128.Idx, absf (xWide b) i = absE (b i) := fun i => by
    unfold xWide
    rw [shapeCast_self]
    rfl
  constructor
  · intro h l
    have := h (iR (z 0).val l.val) (idx1_ext
      ((Shape.Reduces.drop_apply_val_of_eq reduces_S16x128_S16 _ 0 0).trans (Nat.mod_eq_of_lt z0)))
    rw [hs] at this
    exact this
  · intro h i hi
    have h0 : (i 0).val = (z 0).val := by
      have := congrArg (fun f => (f 0).val) hi
      exact (Shape.Reduces.drop_apply_val_of_eq reduces_S16x128_S16 i 0 0).symm.trans this
    show (absf (xWide b) i : EReal) ≤ c
    rw [hs]
    have := h (i 1)
    rw [← h0, show (iR (i 0).val (i 1).val : S16x128.Idx) = i from ix2_self _ _ i] at this
    exact this

end Cert.KernelIdeal.Hand

end
-- ==== Proof.BlocksIdeal.lean ====
/-
  A block's codes, scales and part of the product, read over the extended reals.
-/
module

public import proofs.«01_k».proof.Proof.VocabIdeal

@[expose] public section

set_option maxRecDepth 16384

noncomputable section

namespace Cert.KernelIdeal.Hand

open Idealize.ShloMosaic Idealize.ShloMosaic.TcCoe
open Cert.KernelIdeal.Gen Cert.Spec

/-! ## A block of the weight -/

/-- The largest magnitude of a block. -/
def mB (b : Vec Ideal S128x128 .bf16) : EReal := aW (fun p l => b (iB p l)) 0 0

theorem mB_nonneg (b : Vec Ideal S128x128 .bf16) : 0 ≤ mB b := aW_nonneg _ _ _

theorem wAmax_apply (b : Vec Ideal S128x128 .bf16) (z : S8x128.Idx) : wAmax b z = mB b :=
  eq_aW _ 0 0 _ fun c => by
    rw [wAmax_le b z c]
    simp only [Nat.mul_zero, Nat.zero_add]

theorem wExp_apply (b : Vec Ideal S128x128 .bf16) (hb : mB b ≤ big) (z : S8x128.Idx) : wExp b z = BitVec.ofInt 32 (ex (mB b)) := by
  unfold wExp
  rw [expo_apply (wAmax b) z (by rw [wAmax_apply]; exact mB_nonneg b) (by rw [wAmax_apply]; exact hb), wAmax_apply]

theorem cat16_const (d : FVec Ideal S8x128 .bf16) (v : EReal) (hd : ∀ i, d i = v) (z : S128x128.Idx) :
    concatenate S128x128 0 [⟨S8x128, d⟩, ⟨S8x128, d⟩, ⟨S8x128, d⟩, ⟨S8x128, d⟩, ⟨S8x128, d⟩, ⟨S8x128, d⟩, ⟨S8x128, d⟩, ⟨S8x128, d⟩, ⟨S8x128, d⟩, ⟨S8x128, d⟩, ⟨S8x128, d⟩, ⟨S8x128, d⟩, ⟨S8x128, d⟩, ⟨S8x128, d⟩, ⟨S8x128, d⟩, ⟨S8x128, d⟩]
      concatenates_S8x128_S8x128_S8x128_S8x128_S8x128_S8x128_S8x128_S8x128_S8x128_S8x128_S8x128_S8x128_S8x128_S8x128_S8x128_S8x128_S128x128_d0 z = v := by
  refine concatenate_forall (P := fun u : EReal => u = v) _ _ _ _ (fun p hp i => ?_) z
  have : p = ⟨S8x128, d⟩ := by simpa using hp
  subst this
  exact hd i

theorem cat2_const (d : FVec Ideal S8x128 .bf16) (v : EReal) (hd : ∀ i, d i = v) (z : S16x128.Idx) :
    concatenate S16x128 0 [⟨S8x128, d⟩, ⟨S8x128, d⟩] concatenates_S8x128_S8x128_S16x128_d0 z = v := by
  refine concatenate_forall (P := fun u : EReal => u = v) _ _ _ _ (fun p hp i => ?_) z
  have : p = ⟨S8x128, d⟩ := by simpa using hp
  subst this
  exact hd i

theorem wCodes_apply (b : Vec Ideal S128x128 .bf16) (hb : mB b ≤ big) (z : S128x128.Idx) : wCodes b z = code (b z) (ex (mB b)) := by
  have h1 := ex_ge (mB b)
  have h2 := ex_le (mB b) (mB_nonneg b) hb
  have hd : ∀ z : S8x128.Idx, (truncf .bf16 (pow2n (F := Ideal) (wExp b)) bitsLt_bf16_f32 : FVec Ideal S8x128 .bf16) z = p2 (-(ex (mB b))) := fun z =>
    pow2n_apply (wExp b) z (ex (mB b)) (wExp_apply b hb z) (by omega) (by omega)
  unfold wCodes wCodesOf code
  exact congrArg (fun v : EReal => min (Ideal.ofBits .f32 0x43E00000#32) (max (Ideal.ofBits .f32 0xC3E00000#32) (b z * v))) (cat16_const _ _ hd z)

theorem wPart_apply (xd : Vec Ideal S16x128 .bf16) (b : Vec Ideal S128x128 .bf16) (hb : mB b ≤ big) (z : S16x128.Idx) :
    wPart xd b z = (xd z : EReal) * p2 (ex (mB b)) := by
  have h1 := ex_ge (mB b)
  have h2 := ex_le (mB b) (mB_nonneg b) hb
  have hd : ∀ z : S8x128.Idx, (truncf .bf16 (pow2 (F := Ideal) (wExp b)) bitsLt_bf16_f32 : FVec Ideal S8x128 .bf16) z = p2 (ex (mB b)) := fun z =>
    pow2_apply (wExp b) z (ex (mB b)) (wExp_apply b hb z) (by omega) (by omega)
  unfold wPart
  exact congrArg (fun v : EReal => (xd z : EReal) * v) (cat2_const _ _ hd z)

abbrev iH (a b : ℕ) : S16x256.Idx := ix2 (n := 16) (m := 256) (by omega) (by omega) a b
abbrev iQ (a b : ℕ) : S256x256.Idx := ix2 (n := 256) (m := 256) (by omega) (by omega) a b
abbrev iP (a b : ℕ) : S32x256.Idx := ix2 (n := 32) (m := 256) (by omega) (by omega) a b

theorem wHalf_apply (xd0 xd1 : Vec Ideal S16x128 .bf16) (b0 b1 : Vec Ideal S128x128 .bf16) (h0 : mB b0 ≤ big) (h1 : mB b1 ≤ big) (r k : ℕ)
    (hr : r < 16) (hk : k < 256) :
    wHalf xd0 xd1 b0 b1 (iH r k) = if k < 128 then (xd0 (iR r k) : EReal) * p2 (ex (mB b0)) else (xd1 (iR r k) : EReal) * p2 (ex (mB b1)) := by
  unfold wHalf
  by_cases h : k < 128
  · rw [if_pos h, concatenate_pair_apply_left 1 _ _ concatenates_S16x128_S16x128_S16x256_d1 _ rfl (iR r k)
      (fun b => by match b with | ⟨0, _⟩ => rfl | ⟨1, _⟩ => (show k % 128 = k % 256; omega)), wPart_apply _ _ h0]
  · rw [if_neg h, concatenate_pair_apply_right 1 _ _ concatenates_S16x128_S16x128_S16x256_d1 _ rfl rfl (iR r k)
      (fun b hb => by match b with | ⟨0, _⟩ => rfl | ⟨1, _⟩ => exact absurd rfl hb) (by show k % 128 + 128 = k % 256; omega), wPart_apply _ _ h1]

theorem wProd_apply (l r : FVec Ideal S16x256 .bf16) (wc : Vec Ideal S256x256 .fp8e4m3) (i n : ℕ) (hi : i < 32) (hn : n < 256) :
    wProd l r wc (iP i n) = ∑ k ∈ Finset.range 256, ((if i < 16 then l (iH i k) else r (iH (i - 16) k)) : EReal) * (wc (iQ k n) : EReal) := by
  unfold wProd
  rw [shapeCast_self]
  have e := Ideal.matmul_plain_apply (M := 32) (K := 256) (N := 256) (φ₁ := .bf16) (φ₂ := .fp8e4m3) none
    (concatenate S32x256 0 [⟨S16x256, l⟩, ⟨S16x256, r⟩] concatenates_S16x256_S16x256_S32x256_d0) wc (constant S32x256 .f32 0x00000000#32) ⟨i, hi⟩ ⟨n, hn⟩
  rw [show (iP i n : S32x256.Idx) = ValueIdx.ix2 ⟨i, hi⟩ ⟨n, hn⟩ from idx2_ext (Nat.mod_eq_of_lt hi) (Nat.mod_eq_of_lt hn)]
  refine Eq.trans ?_ (e.trans ?_)
  · rfl
  · rw [show (constant S32x256 .f32 0x00000000#32 : FVec Ideal S32x256 .f32) (ValueIdx.ix2 ⟨i, hi⟩ ⟨n, hn⟩) = 0 from Ideal.ofBits_zero_f32, zero_add,
      ← Fin.sum_univ_eq_sum_range (fun k => ((if i < 16 then l (iH i k) else r (iH (i - 16) k)) : EReal) * (wc (iQ k n) : EReal)) 256]
    refine Finset.sum_congr rfl fun k _ => ?_
    rw [show (ValueIdx.ix2 k ⟨n, hn⟩ : S256x256.Idx) = iQ k.val n from idx2_ext (Nat.mod_eq_of_lt k.isLt).symm (Nat.mod_eq_of_lt hn).symm]
    congr 1
    by_cases h : i < 16
    · rw [if_pos h]
      exact concatenate_pair_apply_left 0 _ _ concatenates_S16x256_S16x256_S32x256_d0 _ rfl (iH i k.val)
        (fun b => by match b with | ⟨0, _⟩ => exact Nat.mod_eq_of_lt h | ⟨1, _⟩ => exact Nat.mod_eq_of_lt k.isLt)
    · rw [if_neg h]
      exact concatenate_pair_apply_right 0 _ _ concatenates_S16x256_S16x256_S32x256_d0 _ rfl rfl (iH (i - 16) k.val)
        (fun b hb => by match b with | ⟨0, _⟩ => exact absurd rfl hb | ⟨1, _⟩ => exact Nat.mod_eq_of_lt k.isLt) (by show (i - 16) % 16 + 16 = i; omega)

theorem accL_apply (a : Vec Ideal S16x128 .f32) (p : FVec Ideal S32x256 .f32) (r l : ℕ) (hr : r < 16) (hl : l < 128) :
    accL a p (iR r l) = (a (iR r l) : EReal) + p (iP r l) := by
  unfold accL
  rw [shapeCast_self]
  show (a (iR r l) : EReal) + extractStridedSlice S16x128 ![0, 0] p slices_S32x256_o0_0_S16x128 (iR r l) = _
  rw [extractStridedSlice_apply _ _ _ _ (iP r l) (fun a => by match a with | ⟨0, _⟩ => (show r % 32 = 0 + r % 16; omega) | ⟨1, _⟩ => (show l % 256 = 0 + l % 128; omega))]

theorem accR_apply (a : Vec Ideal S16x128 .f32) (p : FVec Ideal S32x256 .f32) (r l : ℕ) (hr : r < 16) (hl : l < 128) :
    accR a p (iR r l) = (a (iR r l) : EReal) + p (iP (16 + r) (128 + l)) := by
  unfold accR
  rw [shapeCast_self]
  show (a (iR r l) : EReal) + extractStridedSlice S16x128 ![16, 128] p slices_S32x256_o16_128_S16x128 (iR r l) = _
  rw [extractStridedSlice_apply _ _ _ _ (iP (16 + r) (128 + l)) (fun a => by
    match a with | ⟨0, _⟩ => (show (16 + r) % 32 = 16 + r % 16; omega) | ⟨1, _⟩ => (show (128 + l) % 256 = 128 + l % 128; omega))]

theorem addi_127 (e : ℤ) : BitVec.ofInt 32 e + 127#32 = BitVec.ofInt 32 (e + 127) := by
  rw [BitVec.ofInt_add]; rfl

theorem lane_eq (a b : ℕ) (ha : a < 48) (hb : b < 48) : (IntOp.cmpi .eq (BitVec.ofNat 32 a) (BitVec.ofNat 32 b) = 1#1) ↔ a = b := by
  have : ∀ a b : Fin 48, (IntOp.cmpi .eq (BitVec.ofNat 32 a.val) (BitVec.ofNat 32 b.val) = 1#1) ↔ a = b := by decide +kernel
  exact (this ⟨a, ha⟩ ⟨b, hb⟩).trans (by simp)

abbrev iT (a b : ℕ) : S8x48.Idx := ix2 (n := 8) (m := 48) (by omega) (by omega) a b

theorem wScales_apply (b : Fin 48 → Vec Ideal S128x128 .bf16) (hb : ∀ j, mB (b j) ≤ big) (n : ℕ) (h : n ≤ 48) (r : ℕ) (hr : r < 8) (j : ℕ) (hj : j < n) :
    wScales b n h (iT r j) = BitVec.ofInt 32 (ex (mB (b ⟨j, by omega⟩)) + 127) := by
  induction n with
  | zero => omega
  | succ n ih =>
    unfold wScales
    show (if IntOp.cmpi .eq (iota .tc S8x48 32 [1] iota_S8x48_d1_w32 (iT r j)) (BitVec.ofNat 32 n) = 1#1
      then extractStridedSlice S8x48 ![0, 0] (wExp (b ⟨n, h⟩)) slices_S8x128_o0_0_S8x48 (iT r j) + 127#32 else wScales b n (Nat.le_of_succ_le h) (iT r j)) = _
    rw [show iota .tc S8x48 32 [1] iota_S8x48_d1_w32 (iT r j) = BitVec.ofNat 32 j from by
      rw [iota_apply]; show BitVec.ofNat 32 (0 * 48 + j % 48) = _; congr 1; omega]
    by_cases e : j = n
    · subst e
      rw [if_pos ((lane_eq j j (by omega) (by omega)).mpr rfl), ← addi_127]
      congr 1
      rw [extractStridedSlice_apply _ _ _ _ (ix2 (n := 8) (m := 128) (by omega) (by omega) r j) (fun a => by
        match a with | ⟨0, _⟩ => (show r % 8 = 0 + r % 8; omega) | ⟨1, _⟩ => (show j % 128 = 0 + j % 48; omega))]
      exact wExp_apply _ (hb _) _
    · rw [if_neg (fun hc => e ((lane_eq j n (by omega) (by omega)).mp hc))]
      exact ih (by omega) (by omega)

theorem wScaleRow_apply (b : Fin 48 → Vec Ideal S128x128 .bf16) (hb : ∀ j, mB (b j) ≤ big) (z : S1x48.Idx) :
    wScaleRow b z = BitVec.ofInt 32 (ex (mB (b ⟨(z 1).val, idx2_lt1 z⟩)) + 127) := by
  have z0 := idx2_lt0 z
  have z1 := idx2_lt1 z
  unfold wScaleRow
  rw [extractStridedSlice_apply _ _ _ _ (iT 0 (z 1).val) (fun a => by
    match a with | ⟨0, _⟩ => (show 0 % 8 = 0 + (z 0).val; omega) | ⟨1, _⟩ => (show (z 1).val % 48 = 0 + (z 1).val; omega))]
  exact wScales_apply b hb 48 (Nat.le_refl _) 0 (by omega) _ z1

/-! ## A block of the activation -/

/-- The largest magnitude of a row of a block. -/
def mR (b : Vec Ideal S16x128 .bf16) (r : ℕ) : EReal := aX (fun r l => b (iR r l)) r 0

theorem mR_nonneg (b : Vec Ideal S16x128 .bf16) (r : ℕ) : 0 ≤ mR b r := aX_nonneg _ _ _

theorem xAmax_apply (b : Vec Ideal S16x128 .bf16) (z : S16x128.Idx) : xAmax b z = mR b (z 0).val :=
  eq_aX _ _ 0 _ fun c => by
    rw [xAmax_le b z c]
    simp only [Nat.mul_zero, Nat.zero_add]

theorem xExp_apply (b : Vec Ideal S16x128 .bf16) (z : S16x128.Idx) (hb : mR b (z 0).val ≤ big) : xExp b z = BitVec.ofInt 32 (ex (mR b (z 0).val)) := by
  unfold xExp
  rw [expo_apply (xAmax b) z (by rw [xAmax_apply]; exact mR_nonneg b _) (by rw [xAmax_apply]; exact hb), xAmax_apply]

theorem xCodes_apply (b : Vec Ideal S16x128 .bf16) (z : S16x128.Idx) (hb : mR b (z 0).val ≤ big) : xCodes b z = code (b z) (ex (mR b (z 0).val)) := by
  have h1 := ex_ge (mR b (z 0).val)
  have h2 := ex_le _ (mR_nonneg b (z 0).val) hb
  unfold xCodes code
  rw [← pow2n_apply (xExp b) z _ (xExp_apply b z hb) (by omega) (by omega)]
  unfold xWide
  rw [shapeCast_self]
  rfl

theorem xScaled_apply (b : Vec Ideal S16x128 .bf16) (z : S16x128.Idx) (hb : mR b (z 0).val ≤ big) :
    xScaled b z = code (b z) (ex (mR b (z 0).val)) * p2 (ex (mR b (z 0).val)) := by
  have h1 := ex_ge (mR b (z 0).val)
  have h2 := ex_le _ (mR_nonneg b (z 0).val) hb
  unfold xScaled
  rw [shapeCast_self, ← xCodes_apply b z hb, ← pow2_apply (xExp b) z _ (xExp_apply b z hb) (by omega) (by omega)]
  rfl

abbrev iG (a b : ℕ) : S16x32.Idx := ix2 (n := 16) (m := 32) (by omega) (by omega) a b

theorem xScales_apply (b : Fin 32 → Vec Ideal S16x128 .bf16) (n : ℕ) (h : n ≤ 32) (r : ℕ) (hr : r < 16) (hb : ∀ j, mR (b j) r ≤ big) (j : ℕ) (hj : j < n) :
    xScales b n h (iG r j) = BitVec.ofInt 32 (ex (mR (b ⟨j, by omega⟩) r) + 127) := by
  induction n with
  | zero => omega
  | succ n ih =>
    unfold xScales
    show (if IntOp.cmpi .eq (iota .tc S16x32 32 [1] iota_S16x32_d1_w32 (iG r j)) (BitVec.ofNat 32 n) = 1#1
      then extractStridedSlice S16x32 ![0, 0] (xExp (b ⟨n, h⟩)) slices_S16x128_o0_0_S16x32 (iG r j) + 127#32 else xScales b n (Nat.le_of_succ_le h) (iG r j)) = _
    rw [show iota .tc S16x32 32 [1] iota_S16x32_d1_w32 (iG r j) = BitVec.ofNat 32 j from by
      rw [iota_apply]; show BitVec.ofNat 32 (0 * 32 + j % 32) = _; congr 1; omega]
    by_cases e : j = n
    · subst e
      rw [if_pos ((lane_eq j j (by omega) (by omega)).mpr rfl), ← addi_127]
      congr 1
      have hz : ((iR r j : S16x128.Idx) 0).val = r := Nat.mod_eq_of_lt hr
      rw [extractStridedSlice_apply _ _ _ _ (iR r j) (fun a => by
        match a with | ⟨0, _⟩ => (show r % 16 = 0 + r % 16; omega) | ⟨1, _⟩ => (show j % 128 = 0 + j % 32; omega)),
        xExp_apply _ _ (by rw [hz]; exact hb _), hz]
    · rw [if_neg (fun hc => e ((lane_eq j n (by omega) (by omega)).mp hc))]
      exact ih (by omega) (by omega)

theorem trunc_scale (e : ℤ) : (BitVec.ofInt 32 e).truncate 8 = BitVec.ofInt 8 e := by
  apply BitVec.eq_of_toNat_eq
  simp [BitVec.toNat_ofInt]
  omega

theorem xScaleAll_apply (b : Fin 32 → Vec Ideal S16x128 .bf16) (z : S16x32.Idx) (hb : ∀ j, mR (b j) (z 0).val ≤ big) :
    xScaleAll b z = BitVec.ofInt 8 (ex (mR (b ⟨(z 1).val, idx2_lt1 z⟩) (z 0).val) + 127) := by
  have z0 := idx2_lt0 z
  have z1 := idx2_lt1 z
  rw [← trunc_scale, ← xScales_apply b 32 (Nat.le_refl _) (z 0).val z0 hb (z 1).val z1, show (iG (z 0).val (z 1).val : S16x32.Idx) = z from ix2_self _ _ z]
  rfl

end Cert.KernelIdeal.Hand

end
-- ==== Proof.KernelValues.lean ====
/-
  The arrays the kernel leaves, read over the extended reals at every index, from what its two windows hold.
-/
module

public import proofs.«01_k».proof.Proof.BlocksIdeal
public import proofs.«01_k».proof.Proof.Left

@[expose] public section

set_option maxRecDepth 16384

noncomputable section

namespace Cert.KernelIdeal.Hand

open Idealize.ShloMosaic Idealize.ShloMosaic.TcCoe
open Cert.KernelIdeal.Gen Cert.Spec

variable (X A : ℕ → ℕ → EReal) (x : Vec Ideal S16x4096 .bf16) (w : Vec Ideal S256x6144 .bf16) (n : ℕ)

/-- The window holds the activation. -/
def HoldsX : Prop := ∀ r k, r < 16 → k < 4096 → x (iX r k) = X r k

/-- The window holds rows `256 * n` to `256 * n + 255` of the weight. -/
def HoldsW : Prop := ∀ k j, k < 256 → j < 6144 → w (iW k j) = A (256 * n + k) j

/-- Every element is at most the bound in magnitude. -/
def Bounded (m k : ℕ) (Y : ℕ → ℕ → EReal) : Prop := ∀ i j, i < m → j < k → absE (Y i j) ≤ big

variable {X A x w n}

theorem mB_blk (hw : HoldsW A w n) (i j : ℕ) (hi : i < 2) (hj : j < 48) : mB (blkW w i j) = aW A (2 * n + i) j := by
  unfold mB aW
  refine iSup_congr fun p => iSup_congr fun l => congrArg absE ?_
  have hp := p.isLt
  have hl := l.isLt
  show w (iW (128 * i + (128 * 0 + p.val) % 128) (128 * j + (128 * 0 + l.val) % 128)) = _
  rw [hw _ _ (by omega) (by omega)]
  congr 1 <;> omega

theorem mB_le (hA : Bounded 4096 6144 A) (hn : n < 16) (i j : ℕ) (hi : i < 2) (hj : j < 48) : aW A (2 * n + i) j ≤ big := by
  unfold aW
  exact iSup_le fun p => iSup_le fun l => hA _ _ (by have := p.isLt; omega) (by have := l.isLt; omega)

theorem mR_blk (hx : HoldsX X x) (j r : ℕ) (hr : r < 16) (hj : j < 32) : mR (blkX x j) r = aX X r j := by
  unfold mR aX
  refine iSup_congr fun l => congrArg absE ?_
  have hl := l.isLt
  show x (iX (r % 16) (128 * j + (128 * 0 + l.val) % 128)) = _
  rw [hx _ _ (by omega) (by omega)]
  congr 1 <;> omega

theorem mR_le (hX : Bounded 16 4096 X) (j r : ℕ) (hr : r < 16) (hj : j < 32) : aX X r j ≤ big := by
  unfold aX
  exact iSup_le fun l => hX _ _ hr (by have := l.isLt; omega)

theorem codesX_apply (hx : HoldsX X x) (hX : Bounded 16 4096 X) (z : S16x4096.Idx) : codesX x z = xc X (z 0).val (z 1).val := by
  have z0 := idx2_lt0 z
  have z1 := idx2_lt1 z
  have e0 : ((iR (z 0).val (z 1).val : S16x128.Idx) 0).val = (z 0).val := Nat.mod_eq_of_lt z0
  have hm : mR (blkX x ((z 1).val / 128)) (z 0).val = aX X (z 0).val ((z 1).val / 128) := mR_blk hx _ _ z0 (by omega)
  unfold codesX xc
  rw [xCodes_apply _ _ (by rw [e0, hm]; exact mR_le hX _ _ z0 (by omega)), e0, hm]
  congr 1
  show x (iX ((z 0).val % 16) (128 * ((z 1).val / 128) + (z 1).val % 128)) = _
  rw [hx _ _ (by omega) (by omega)]
  congr 1 <;> omega

theorem scaledX_apply (hx : HoldsX X x) (hX : Bounded 16 4096 X) (z : S16x4096.Idx) : scaledX x z = xd X (z 0).val (z 1).val := by
  have z0 := idx2_lt0 z
  have z1 := idx2_lt1 z
  have e0 : ((iR (z 0).val (z 1).val : S16x128.Idx) 0).val = (z 0).val := Nat.mod_eq_of_lt z0
  have hm : mR (blkX x ((z 1).val / 128)) (z 0).val = aX X (z 0).val ((z 1).val / 128) := mR_blk hx _ _ z0 (by omega)
  unfold scaledX xd xc
  rw [xScaled_apply _ _ (by rw [e0, hm]; exact mR_le hX _ _ z0 (by omega)), e0, hm]
  congr 2
  show x (iX ((z 0).val % 16) (128 * ((z 1).val / 128) + (z 1).val % 128)) = _
  rw [hx _ _ (by omega) (by omega)]
  congr 1 <;> omega

theorem xScaleAll_blk (hx : HoldsX X x) (hX : Bounded 16 4096 X) (z : S16x32.Idx) :
    xScaleAll (fun j => blkX x j.val) z = xs X (z 0).val (z 1).val := by
  have z0 := idx2_lt0 z
  have z1 := idx2_lt1 z
  rw [xScaleAll_apply _ z (fun j => by rw [mR_blk hx _ _ z0 j.isLt]; exact mR_le hX _ _ z0 j.isLt), mR_blk hx _ _ z0 z1]
  rfl

theorem codesW_apply (hw : HoldsW A w n) (hA : Bounded 4096 6144 A) (hn : n < 16) (z : S256x6144.Idx) :
    codesW w z = wc A (256 * n + (z 0).val) (z 1).val := by
  have z0 := idx2_lt0 z
  have z1 := idx2_lt1 z
  have hm := mB_blk hw ((z 0).val / 128) ((z 1).val / 128) (by omega) (by omega)
  unfold codesW wc
  rw [wCodes_apply _ (by rw [hm]; exact mB_le hA hn _ _ (by omega) (by omega)), hm, show (256 * n + (z 0).val) / 128 = 2 * n + (z 0).val / 128 by omega]
  congr 1
  show w (iW (128 * ((z 0).val / 128) + (z 0).val % 128) (128 * ((z 1).val / 128) + (z 1).val % 128)) = _
  rw [hw _ _ (by omega) (by omega)]
  congr 1 <;> omega

theorem rowW_apply (hw : HoldsW A w n) (hA : Bounded 4096 6144 A) (hn : n < 16) (r j : ℕ) (hr : r < 2) (hj : j < 48) :
    rowW w r (iS j) = ws A (2 * n + r) j := by
  unfold rowW ws
  rw [wScaleRow_apply _ (fun j => by rw [mB_blk hw r j.val hr j.isLt]; exact mB_le hA hn _ _ hr j.isLt)]
  simp only
  rw [mB_blk hw _ _ hr (idx2_lt1 _), show ((iS j : S1x48.Idx) 1).val = j from Nat.mod_eq_of_lt hj]

/-- One term of the product as the kernel forms it. -/
def term (X A : ℕ → ℕ → EReal) (r j k : ℕ) : EReal := xd X r k * p2 (ex (aW A (k / 128) (j / 128))) * wc A k j

theorem accStep_apply (hw : HoldsW A w n) (hA : Bounded 4096 6144 A) (hn : n < 16) (xd0 xd1 : Vec Ideal S16x128 .bf16)
    (h0 : ∀ r k, r < 16 → k < 128 → xd0 (iR r k) = xd X r (256 * n + k)) (h1 : ∀ r k, r < 16 → k < 128 → xd1 (iR r k) = xd X r (256 * n + 128 + k))
    (a : Vec Ideal S16x6144 .f32) (z : S16x6144.Idx) :
    accStep xd0 xd1 w a z = (a z : EReal) + ∑ k ∈ Finset.range 256, term X A (z 0).val (z 1).val (256 * n + k) := by
  have z0 := idx2_lt0 z
  have z1 := idx2_lt1 z
  have ha : blkY a ((z 1).val / 128) (iR (z 0).val ((z 1).val % 128)) = a z := by
    refine congrArg a (idx2_ext ?_ ?_)
    · show (z 0).val % 16 % 16 = (z 0).val
      omega
    · show (128 * ((z 1).val / 128) + (z 1).val % 128 % 128) % 6144 = (z 1).val
      omega
  have ei : (iR (z 0).val (z 1).val : S16x128.Idx) = iR (z 0).val ((z 1).val % 128) := idx2_ext rfl (Nat.mod_mod _ _).symm
  have hm : ∀ i, i < 2 → mB (blkW w i ((z 1).val / 128)) = aW A (2 * n + i) ((z 1).val / 128) := fun i hi => mB_blk hw i _ hi (by omega)
  have hb : ∀ i, i < 2 → mB (blkW w i ((z 1).val / 128)) ≤ big := fun i hi => by rw [hm i hi]; exact mB_le hA hn _ _ hi (by omega)
  -- the left operand's row and the codes' column
  have hl : ∀ k, k < 256 → (wHalf xd0 xd1 (blkW w 0 ((z 1).val / 128)) (blkW w 1 ((z 1).val / 128)) (iH (z 0).val k) : EReal)
      = xd X (z 0).val (256 * n + k) * p2 (ex (aW A ((256 * n + k) / 128) ((z 1).val / 128))) := fun k hk => by
    rw [wHalf_apply _ _ _ _ (hb 0 (by omega)) (hb 1 (by omega)) _ _ z0 hk, hm 0 (by omega), hm 1 (by omega)]
    by_cases h : k < 128
    · rw [if_pos h, h0 _ _ z0 h, show (256 * n + k) / 128 = 2 * n + 0 by omega]
    · rw [if_neg h, show (iR (z 0).val k : S16x128.Idx) = iR (z 0).val (k - 128) from idx2_ext rfl (by rw [ix2_1, ix2_1]; omega),
        h1 _ _ z0 (by omega), show (256 * n + k) / 128 = 2 * n + 1 by omega, show 256 * n + 128 + (k - 128) = 256 * n + k by omega]
  have hc : ∀ (q k : ℕ), k < 256 → 256 * ((z 1).val / 128 / 2) + q = (z 1).val → q < 256 →
      (codesCol w ((z 1).val / 128 / 2) (iQ k q) : EReal) = wc A (256 * n + k) (z 1).val := fun q k hk hq hq2 => by
    show codesW w (iW (k % 256) (256 * ((z 1).val / 128 / 2) + q % 256)) = _
    rw [codesW_apply hw hA hn]
    congr 1
    · show 256 * n + k % 256 % 256 = _
      omega
    · show (256 * ((z 1).val / 128 / 2) + q % 256) % 6144 = _
      omega
  unfold accStep accBlk
  rw [ei]
  split
  · next he =>
    rw [accL_apply _ _ _ _ z0 (by omega), ha]
    unfold prodCol
    rw [wProd_apply _ _ _ _ _ (by omega) (by omega), show 2 * ((z 1).val / 128 / 2) = (z 1).val / 128 by omega]
    congr 1
    refine Finset.sum_congr rfl fun k hk => ?_
    have hk := Finset.mem_range.mp hk
    rw [if_pos z0, hl k hk, hc _ k hk (by omega) (by omega)]
    rfl
  · next he =>
    rw [accR_apply _ _ _ _ z0 (by omega), ha]
    unfold prodCol
    rw [wProd_apply _ _ _ _ _ (by omega) (by omega), show 2 * ((z 1).val / 128 / 2) + 1 = (z 1).val / 128 by omega]
    congr 1
    refine Finset.sum_congr rfl fun k hk => ?_
    have hk := Finset.mem_range.mp hk
    rw [if_neg (by omega), show 16 + (z 0).val - 16 = (z 0).val by omega, hl k hk, hc _ k hk (by omega) (by omega)]
    rfl

theorem term_eq (X A : ℕ → ℕ → EReal) (r j k : ℕ) : term X A r j k = xd X r k * wd A k j := by
  unfold term wd
  rw [mul_assoc, mul_comm (p2 _)]

end Cert.KernelIdeal.Hand

end
-- ==== Proof.Reading.lean ====
/-
  What the kernel's run leaves, over the extended reals: the windows as the region finds them, the accumulated product, and the arrays.
-/
module

public import proofs.«01_k».proof.Proof.Body
public import proofs.«01_k».proof.Proof.KernelValues
public import Idealize.ShloMosaic.Lib.Pipeline.ArrRel

@[expose] public section

set_option maxRecDepth 16384

noncomputable section

namespace Cert.KernelIdeal.Hand

open Idealize.ShloMosaic Idealize.ShloMosaic.TcCoe Idealize.SL.Sem
open Idealize.ShloMosaic.Pipeline (Dat Cfg Window)
open Cert.KernelIdeal.Gen Cert.Spec

variable (m : (ℓ : Loc nD τ sig) → Buf (Elt Ideal) ℓ) (ρ : Dev nD → PrngReg)

/-! ## Where a block's elements sit -/

theorem idx0 : ∀ t : Fin cfg0.N, win0_0.index t (0 : Fin 2) = 0 ∧ win0_0.index t (1 : Fin 2) = 0 := (by decide +kernel : ∀ t : Fin grid0.N, _)
theorem idx1 : ∀ t : Fin cfg0.N, win0_1.index t (0 : Fin 2) = t.val ∧ win0_1.index t (1 : Fin 2) = 0 := (by decide +kernel : ∀ t : Fin grid0.N, _)
theorem idx2 : ∀ t : Fin cfg0.N, win0_2.index t (0 : Fin 2) = 0 ∧ win0_2.index t (1 : Fin 2) = 0 := (by decide +kernel : ∀ t : Fin grid0.N, _)
theorem idx3 : ∀ t : Fin cfg0.N, win0_3.index t (0 : Fin 2) = 0 ∧ win0_3.index t (1 : Fin 2) = 0 := (by decide +kernel : ∀ t : Fin grid0.N, _)
theorem idx4 : ∀ t : Fin cfg0.N, win0_4.index t (0 : Fin 2) = 0 ∧ win0_4.index t (1 : Fin 2) = 0 := (by decide +kernel : ∀ t : Fin grid0.N, _)
theorem idx5 : ∀ t : Fin cfg0.N, win0_5.index t (0 : Fin 2) = t.val ∧ win0_5.index t (1 : Fin 2) = 0 := (by decide +kernel : ∀ t : Fin grid0.N, _)
theorem idx6 : ∀ t : Fin cfg0.N, win0_6.index t (0 : Fin 2) = 0 ∧ win0_6.index t (1 : Fin 2) = 0 := (by decide +kernel : ∀ t : Fin grid0.N, _)

theorem emb0 (t : Fin cfg0.N) (j : S16x4096.Idx) : ((cfg0.win 0).blk t).view.emb j = j := by
  obtain ⟨e0, e1⟩ := idx0 t
  refine idx2_ext (n := 16) (m := 4096) ?_ ?_
  · show win0_0.index t (0 : Fin 2) * 16 + 1 * (j 0).val = (j 0).val; omega
  · show win0_0.index t (1 : Fin 2) * 4096 + 1 * (j 1).val = (j 1).val; omega

theorem emb2 (t : Fin cfg0.N) (j : S16x6144.Idx) : ((cfg0.win 2).blk t).view.emb j = j := by
  obtain ⟨e0, e1⟩ := idx2 t
  refine idx2_ext (n := 16) (m := 6144) ?_ ?_
  · show win0_2.index t (0 : Fin 2) * 16 + 1 * (j 0).val = (j 0).val; omega
  · show win0_2.index t (1 : Fin 2) * 6144 + 1 * (j 1).val = (j 1).val; omega

theorem emb3 (t : Fin cfg0.N) (j : S16x4096.Idx) : ((cfg0.win 3).blk t).view.emb j = j := by
  obtain ⟨e0, e1⟩ := idx3 t
  refine idx2_ext (n := 16) (m := 4096) ?_ ?_
  · show win0_3.index t (0 : Fin 2) * 16 + 1 * (j 0).val = (j 0).val; omega
  · show win0_3.index t (1 : Fin 2) * 4096 + 1 * (j 1).val = (j 1).val; omega

theorem emb4 (t : Fin cfg0.N) (j : S16x32.Idx) : ((cfg0.win 4).blk t).view.emb j = j := by
  obtain ⟨e0, e1⟩ := idx4 t
  refine idx2_ext (n := 16) (m := 32) ?_ ?_
  · show win0_4.index t (0 : Fin 2) * 16 + 1 * (j 0).val = (j 0).val; omega
  · show win0_4.index t (1 : Fin 2) * 32 + 1 * (j 1).val = (j 1).val; omega

theorem emb6 (t : Fin cfg0.N) (j : S32x48.Idx) : ((cfg0.win 6).blk t).view.emb j = j := by
  obtain ⟨e0, e1⟩ := idx6 t
  refine idx2_ext (n := 32) (m := 48) ?_ ?_
  · show win0_6.index t (0 : Fin 2) * 32 + 1 * (j 0).val = (j 0).val; omega
  · show win0_6.index t (1 : Fin 2) * 48 + 1 * (j 1).val = (j 1).val; omega

/-- The index of the weight at natural coordinates. -/
abbrev iA (a b : ℕ) : S4096x6144.Idx := ix2 (n := 4096) (m := 6144) (by omega) (by omega) a b

theorem emb1 (t : Fin cfg0.N) (j : S256x6144.Idx) : ((cfg0.win 1).blk t).view.emb j = iA (256 * t.val + (j 0).val) (j 1).val := by
  obtain ⟨e0, e1⟩ := idx1 t
  have ht : t.val < 16 := Nat.lt_of_lt_of_eq t.isLt N_0
  have j0 := idx2_lt0 j
  have j1 := idx2_lt1 j
  refine idx2_ext (n := 4096) (m := 6144) ?_ ?_
  · show win0_1.index t (0 : Fin 2) * 256 + 1 * (j 0).val = (256 * t.val + (j 0).val) % 4096; omega
  · show win0_1.index t (1 : Fin 2) * 6144 + 1 * (j 1).val = (j 1).val % 6144; omega

theorem emb5 (t : Fin cfg0.N) (j : S256x6144.Idx) : ((cfg0.win 5).blk t).view.emb j = iA (256 * t.val + (j 0).val) (j 1).val := by
  obtain ⟨e0, e1⟩ := idx5 t
  have ht : t.val < 16 := Nat.lt_of_lt_of_eq t.isLt N_0
  have j0 := idx2_lt0 j
  have j1 := idx2_lt1 j
  refine idx2_ext (n := 4096) (m := 6144) ?_ ?_
  · show win0_5.index t (0 : Fin 2) * 256 + 1 * (j 0).val = (256 * t.val + (j 0).val) % 4096; omega
  · show win0_5.index t (1 : Fin 2) * 6144 + 1 * (j 1).val = (j 1).val % 6144; omega

/-! ## The windows -/

theorem V_main_v0 (c : Dev nD) :
    (V m c main_v0 : Vec Ideal S16x4096 .bf16)
      = shapeCast S16x4096 (m ((c : Thread nD τ).loc main_arg0) : Vec Ideal S16x1x4096 .bf16) shapeCasts_S16x1x4096_S16x4096 := by
  show StableHlo.after hostOps0 (fun b => m (c, b)) (Proc.devRef .tc main_v0) = _
  rw [hostOps0, StableHlo.after_cons, StableHlo.after_nil]
  exact StableHlo.reshape_result main_arg0 main_v0 _ _ _ _ _

theorem holdsX (c : Dev nD) : HoldsX (xN (m ((c : Thread nD τ).loc main_arg0))) (actOf m c) := fun r k hr hk => by
  show (V m c main_v0 : Vec Ideal S16x4096 .bf16) (((cfg0.win 0).blk (pt 0)).view.emb (iX r k)) = _
  rw [emb0, V_main_v0]
  refine (shapeCast_apply _ shapeCasts_S16x1x4096_S16x4096 (iX r k) (iXR r k) ?_).trans rfl
  refine (rm3 _).trans (Eq.trans ?_ (rm2 _).symm)
  rw [ix2_0, ix2_1]
  show (r % 16 * 1 + 0) * 4096 + k % 4096 = _
  omega

theorem holdsW (c : Dev nD) (n : ℕ) (hn : n < 16) : HoldsW (aN (m ((c : Thread nD τ).loc main_arg1))) (wOf m c n) n := fun k j hk hj => by
  show (V m c main_arg1 : Vec Ideal S4096x6144 .bf16) (((cfg0.win 1).blk (pt n)).view.emb (iW k j)) = _
  rw [emb1, V_main_arg1, ix2_0, ix2_1]
  refine congrArg (m ((c : Thread nD τ).loc main_arg1) : Vec Ideal S4096x6144 .bf16) (idx2_ext (n := 4096) (m := 6144) ?_ ?_)
  · show (256 * (n % 16) + k % 256) % 4096 = (256 * n + k) % 4096; omega
  · show (j % 6144) % 6144 = j % 6144; omega

/-! ## The accumulated product -/

variable {m}
variable {X A : ℕ → ℕ → EReal} {c : Dev nD}

theorem xdOf_apply (hx : HoldsX X (actOf m c)) (hX : Bounded 16 4096 X) (j r k : ℕ) (hj : j < 32) (hr : r < 16) (hk : k < 128) :
    xdOf m c j (iR r k) = xd X r (128 * j + k) := by
  show scaledX (actOf m c) (iX (r % 16) (128 * j + k % 128)) = _
  rw [scaledX_apply hx hX, ix2_0, ix2_1]
  congr 1 <;> omega

theorem accAt_apply (hx : HoldsX X (actOf m c)) (hw : ∀ n, n < 16 → HoldsW A (wOf m c n) n) (hX : Bounded 16 4096 X) (hA : Bounded 4096 6144 A)
    (z : S16x6144.Idx) (n : ℕ) (hn : n < 16) :
    (accAt m c n z : EReal) = ∑ k ∈ Finset.range (256 * (n + 1)), term X A (z 0).val (z 1).val k := by
  induction n with
  | zero =>
    rw [accAt_zero, accStep_apply (hw 0 hn) hA hn _ _ (fun r k hr hk => by rw [xdOf_apply hx hX _ _ _ (by omega) hr hk])
      (fun r k hr hk => by rw [xdOf_apply hx hX _ _ _ (by omega) hr hk])]
    rw [show (k0_pay337 (F := Ideal) z : EReal) = 0 from Ideal.ofBits_zero_f32, zero_add]
    refine Finset.sum_congr rfl fun k _ => by rw [Nat.mul_zero, Nat.zero_add]
  | succ n ih =>
    rw [accAt_succ, accStep_apply (hw (n + 1) hn) hA hn _ _
      (fun r k hr hk => by rw [xdOf_apply hx hX _ _ _ (by omega) hr hk]; congr 1; omega)
      (fun r k hr hk => by rw [xdOf_apply hx hX _ _ _ (by omega) hr hk]; congr 1; omega),
      ih (by omega), show 256 * (n + 1 + 1) = 256 * (n + 1) + 256 by ring, Finset.sum_range_add]

theorem outY_eq (hx : HoldsX X (actOf m c)) (hw : ∀ n, n < 16 → HoldsW A (wOf m c n) n) (hX : Bounded 16 4096 X) (hA : Bounded 4096 6144 A) :
    outY m c = resY X A := funext fun z => by
  show (accAt m c 15 z : EReal) = _
  rw [accAt_apply hx hw hX hA z 15 (by norm_num)]
  exact Finset.sum_congr rfl fun k _ => term_eq _ _ _ _ _

theorem outXC_eq (hx : HoldsX X (actOf m c)) (hX : Bounded 16 4096 X) : outXC m c = resXC X := funext fun z => codesX_apply hx hX z

theorem outXS_eq (hx : HoldsX X (actOf m c)) (hX : Bounded 16 4096 X) : outXS m c = resXS X := funext fun z => xScaleAll_blk hx hX z

theorem outWS_eq (hw : ∀ n, n < 16 → HoldsW A (wOf m c n) n) (hA : Bounded 4096 6144 A) : outWS m c = resWS A := funext fun z => by
  have z0 := idx2_lt0 z
  have z1 := idx2_lt1 z
  show rowW (wOf m c ((z 0).val / 2)) ((z 0).val % 2) (iS (z 1).val) = ws A (z 0).val (z 1).val
  rw [rowW_apply (hw _ (by omega)) hA (by omega) _ _ (by omega) z1]
  congr 1; omega

/-! ## The arrays -/

theorem leaves {w : Fin cfg0.W} (h : fgt0 w = true) {t : Fin cfg0.N} {Y : (cfg0.win w).block.Idx → Elt Ideal (cfg0.win w).elt}
    (hL : (rdats m c).Leaves w t Y) : rel0 m c w t Y := Dat.toRRel_leaves _ h hL

theorem last : (pt 15).val % 16 = 15 := rfl

variable (m) in
/-- The five arrays after the run, and the arguments. -/
theorem run_values (hx : ∀ c : Dev nD, Bounded 16 4096 (xN (m ((c : Thread nD τ).loc main_arg0))))
    (ha : ∀ c : Dev nD, Bounded 4096 6144 (aN (m ((c : Thread nD τ).loc main_arg1)))) :
    θ_run defs (onTc (τ := τ) (main (F := Ideal))) ⟨m, fun _ => 0, ρ⟩ (fun r => ∀ c : Dev nD,
      r.2.mem ((c.tc : Thread nD τ).loc main_v1_0) = resY (xN (m ((c : Thread nD τ).loc main_arg0))) (aN (m ((c : Thread nD τ).loc main_arg1)))
      ∧ r.2.mem ((c.tc : Thread nD τ).loc main_v1_1) = resXC (xN (m ((c : Thread nD τ).loc main_arg0)))
      ∧ r.2.mem ((c.tc : Thread nD τ).loc main_v1_2) = resXS (xN (m ((c : Thread nD τ).loc main_arg0)))
      ∧ r.2.mem ((c.tc : Thread nD τ).loc main_v1_3) = resWC (aN (m ((c : Thread nD τ).loc main_arg1)))
      ∧ r.2.mem ((c.tc : Thread nD τ).loc main_v1_4) = resWS (aN (m ((c : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs _ _).mono (fun r h c => ?_) (θ_run_and (run_main m ρ) (frame m ρ))
  obtain ⟨⟨hP, _⟩, hF, _⟩ := h
  obtain ⟨after, hL, hM⟩ := hP.exists_exact c
  have hX := holdsX m c
  have hW := holdsW m c
  refine ⟨(hM 2).trans ?_, (hM 3).trans ?_, (hM 4).trans ?_, (hM 5).trans ?_, (hM 6).trans ?_, (hF c).1, (hF c).2⟩
  · refine Dat.arrAt_eq_of_cover _ 2 _ (fun t hf => ?_) fun i => ?_
    · have := leaves rfl (hL 2 t hf)
      have e : after 2 t = outY m c := this (by have := (flush0_2 t).mp hf; have : t.val < 16 := Nat.lt_of_lt_of_eq t.isLt N_0; omega)
      rw [← outY_eq hX hW (hx c) (ha c)]
      funext j
      show after 2 t j = outY m c (((cfg0.win 2).blk t).view.emb j)
      rw [emb2, e]
    · exact ⟨pt 15, (flush0_2 _).mpr last, by have h := ((cfg0.win 2).blk (pt 15)).view.emb_mem_set i; rwa [emb2] at h⟩
  · refine Dat.arrAt_eq_of_cover _ 3 _ (fun t hf => ?_) fun i => ?_
    · have e : after 3 t = outXC m c := leaves rfl (hL 3 t hf)
      rw [← outXC_eq hX (hx c)]
      funext j
      show after 3 t j = outXC m c (((cfg0.win 3).blk t).view.emb j)
      rw [emb3, e]
    · exact ⟨pt 15, (flush0_3 _).mpr last, by have h := ((cfg0.win 3).blk (pt 15)).view.emb_mem_set i; rwa [emb3] at h⟩
  · refine Dat.arrAt_eq_of_cover _ 4 _ (fun t hf => ?_) fun i => ?_
    · have e : after 4 t = outXS m c := leaves rfl (hL 4 t hf)
      rw [← outXS_eq hX (hx c)]
      funext j
      show after 4 t j = outXS m c (((cfg0.win 4).blk t).view.emb j)
      rw [emb4, e]
    · exact ⟨pt 15, (flush0_4 _).mpr last, by have h := ((cfg0.win 4).blk (pt 15)).view.emb_mem_set i; rwa [emb4] at h⟩
  · refine Dat.arrAt_eq_of_cover _ 5 _ (fun t hf => ?_) fun i => ?_
    · have e : after 5 t = outWC m c t.val := leaves rfl (hL 5 t hf)
      have ht : t.val < 16 := Nat.lt_of_lt_of_eq t.isLt N_0
      funext j
      have j0 := idx2_lt0 (n := 256) (m := 6144) j
      have j1 := idx2_lt1 (n := 256) (m := 6144) j
      show after 5 t j = resWC (aN (m ((c : Thread nD τ).loc main_arg1))) (((cfg0.win 5).blk t).view.emb j)
      rw [emb5, e]
      refine (codesW_apply (hW _ ht) (ha c) ht j).trans ?_
      show _ = wc _ ((256 * t.val + (j 0).val) % 4096) ((j 1).val % 6144)
      rw [Nat.mod_eq_of_lt (a := 256 * t.val + (j 0).val) (by omega), Nat.mod_eq_of_lt j1]
    · have i0 := idx2_lt0 (n := 4096) (m := 6144) i
      have i1 := idx2_lt1 (n := 4096) (m := 6144) i
      refine ⟨pt ((i 0).val / 256), flush0_5 _, ?_⟩
      have h := ((cfg0.win 5).blk (pt ((i 0).val / 256))).view.emb_mem_set (iW ((i 0).val % 256) (i 1).val)
      rw [emb5] at h
      have e : iA (256 * (pt ((i 0).val / 256)).val + ((iW ((i 0).val % 256) (i 1).val) 0).val) ((iW ((i 0).val % 256) (i 1).val) 1).val = i :=
        idx2_ext (n := 4096) (m := 6144)
          (by show (256 * ((i 0).val / 256 % 16) + (i 0).val % 256 % 256) % 4096 = (i 0).val; omega)
          (by show (i 1).val % 6144 % 6144 = (i 1).val; omega)
      rwa [e] at h
  · refine Dat.arrAt_eq_of_cover _ 6 _ (fun t hf => ?_) fun i => ?_
    · have e : ∀ y : S32x48.Idx, (y 0).val < 2 * (t.val + 1) → after 6 t y = outWS m c y := leaves rfl (hL 6 t hf)
      have ht : t.val = 15 := by have := (flush0_6 t).mp hf; have : t.val < 16 := Nat.lt_of_lt_of_eq t.isLt N_0; omega
      rw [← outWS_eq hW (ha c)]
      funext j
      show after 6 t j = outWS m c (((cfg0.win 6).blk t).view.emb j)
      rw [emb6]
      exact e j (by have := idx2_lt0 (n := 32) (m := 48) j; omega)
    · exact ⟨pt 15, (flush0_6 _).mpr last, by have h := ((cfg0.win 6).blk (pt 15)).view.emb_mem_set i; rwa [emb6] at h⟩

end Cert.KernelIdeal.Hand

end
-- ==== Proof.RefValues.lean ====
/-
  The reference's five results, over the extended reals, at every index.
-/
module

public import proofs.«01_k».proof.Proof.Gen.ReferenceIdeal.Value
public import proofs.«01_k».proof.Proof.VocabIdeal

@[expose] public section

set_option maxRecDepth 16384

noncomputable section

namespace Cert.ReferenceIdeal.Hand

open Idealize.ShloMosaic Idealize.ShloMosaic.TcCoe
open Cert.ReferenceIdeal Cert.ReferenceIdeal.Gen Cert.Spec
open Cert.KernelIdeal.Hand (rm2 rm3 rm4 reduce_le ofBits_neg_inf idx2_ext idx2_lt0 idx2_lt1)

/-! ## The exponent -/

/-- What a maximum reduction is at least. -/
theorem le_reduce {s t : Shape} {φ : FTy} {axes : List (Fin s.rank)} (src : FVec Ideal s φ) (acc : BitVec φ.bits) (h : s.Reduces axes t)
    (hφ : FKind.Formats φ) (hacc : acc = FKind.maximumf.neutral φ hφ) (hb : Ideal.ofBits φ acc = ⊥) (j : t.Idx) (c : EReal) :
    c ≤ (show EReal from multiReduction .maximumf axes t src acc h hφ hacc j) ↔ c ≤ ⊥ ∨ ∃ i, h.drop i = j ∧ c ≤ (show EReal from src i) := by
  rw [multiReduction_maximumf_eq_fold]
  show c ≤ (Finset.univ.filter fun i => h.drop i = j).fold max (Ideal.ofBits φ acc) src ↔ _
  rw [Finset.le_fold_max, hb]
  simp

theorem ofBits_126 : Ideal.ofBits .f32 0x42FC0000#32 = ((126 : ℝ) : EReal) := by
  simp [Ideal.ofBits, Ideal.ieee, -EReal.coe_mul]; norm_num
theorem ofBits_neg126 : Ideal.ofBits .f32 0xC2FC0000#32 = ((-126 : ℝ) : EReal) := by
  simp [Ideal.ofBits, Ideal.ieee, -EReal.coe_mul]; norm_num
theorem ofBits_127 : Ideal.ofBits .f32 0x42FE0000#32 = ((127 : ℝ) : EReal) := by
  simp [Ideal.ofBits, Ideal.ieee, -EReal.coe_mul]; norm_num
theorem ofBits_1 : Ideal.ofBits .f32 0x3F800000#32 = ((1 : ℝ) : EReal) := by
  simp [Ideal.ofBits, Ideal.ieee, -EReal.coe_mul]; norm_num

theorem exp2_int (n : ℤ) : Ideal.exp2 ((n : ℝ) : EReal) = p2 n := by
  rw [Ideal.exp2_coe]
  unfold p2
  exact congrArg _ (Real.rpow_intCast 2 n)

section chain

variable {n m : ℕ} (q : FVec Ideal ⟨2, ![n, m]⟩ .f32) (hi : (⟨3, ![n, m, 254]⟩ : Shape).Iotas .tc 32 [2])
  (hc : (⟨2, ![n, m]⟩ : Shape).ShapeCasts ⟨3, ![n, m, 1]⟩) (hb : (⟨3, ![n, m, 1]⟩ : Shape).Broadcasts ⟨3, ![n, m, 254]⟩)
  (hr : (⟨3, ![n, m, 254]⟩ : Shape).Reduces [2] ⟨2, ![n, m]⟩)

/-- The candidates: one more than an exponent whose power of two the quotient reaches. -/
def cand : FVec Ideal ⟨3, ![n, m, 254]⟩ .f32 :=
  select (cmpf .oge (broadcastTo ⟨3, ![n, m, 254]⟩ (shapeCast ⟨3, ![n, m, 1]⟩ q hc) hb)
      (exp2 (subf (sitofp .f32 (iota .tc ⟨3, ![n, m, 254]⟩ 32 [2] hi)) (broadcast ⟨3, ![n, m, 254]⟩ (Scalar.ofBits (F := Ideal) .f32 0x42FC0000#32)))))
    (addf (subf (sitofp .f32 (iota .tc ⟨3, ![n, m, 254]⟩ 32 [2] hi)) (broadcast ⟨3, ![n, m, 254]⟩ (Scalar.ofBits (F := Ideal) .f32 0x42FC0000#32)))
      (broadcast ⟨3, ![n, m, 254]⟩ (Scalar.ofBits (F := Ideal) .f32 0x3F800000#32)))
    (broadcast ⟨3, ![n, m, 254]⟩ (Scalar.ofBits (F := Ideal) .f32 0xC2FC0000#32))

/-- The largest candidate, and 0 where there is none. -/
def refE : FVec Ideal ⟨2, ![n, m]⟩ .f32 :=
  select (cmpf .oeq (multiReduction .maximumf [2] ⟨2, ![n, m]⟩ (cand q hi hc hb) 0xFF800000#32 hr (.inl rfl) rfl)
      (broadcast ⟨2, ![n, m]⟩ (Scalar.ofBits (F := Ideal) .f32 0xC2FC0000#32)))
    (broadcast ⟨2, ![n, m]⟩ (Scalar.ofBits (F := Ideal) .f32 0x00000000#32))
    (multiReduction .maximumf [2] ⟨2, ![n, m]⟩ (cand q hi hc hb) 0xFF800000#32 hr (.inl rfl) rfl)

theorem spread_apply (v : FVec Ideal ⟨2, ![n, m]⟩ .f32) (k : ℕ) (hb : (⟨3, ![n, m, 1]⟩ : Shape).Broadcasts ⟨3, ![n, m, k]⟩)
    (i : (⟨3, ![n, m, k]⟩ : Shape).Idx) (z : (⟨2, ![n, m]⟩ : Shape).Idx) (h0 : (z 0).val = (i 0).val) (h1 : (z 1).val = (i 1).val) :
    broadcastTo ⟨3, ![n, m, k]⟩ (shapeCast ⟨3, ![n, m, 1]⟩ v hc) hb i = v z := by
  have i0 : (i 0).val < n := (i 0).isLt
  have i1 : (i 1).val < m := (i 1).isLt
  rw [broadcastTo_apply _ hb i (ix3 (⟨(i 0).val, i0⟩ : Fin n) (⟨(i 1).val, i1⟩ : Fin m) (0 : Fin 1)) (fun a => by
    match a with
    | ⟨0, _⟩ =>
      show (i 0).val = if n = 1 then 0 else (i 0).val
      split <;> omega
    | ⟨1, _⟩ =>
      show (i 1).val = if m = 1 then 0 else (i 1).val
      split <;> omega
    | ⟨2, _⟩ => rfl)]
  refine shapeCast_apply _ hc _ z ?_
  refine (rm2 _).trans (Eq.trans ?_ (rm3 _).symm)
  rw [h0, h1]
  show (i 0).val * m + (i 1).val = ((i 0).val * m + (i 1).val) * 1 + 0
  omega

theorem cand_apply (i : (⟨3, ![n, m, 254]⟩ : Shape).Idx) (z : (⟨2, ![n, m]⟩ : Shape).Idx) (h0 : (z 0).val = (i 0).val) (h1 : (z 1).val = (i 1).val) :
    (cand q hi hc hb i : EReal)
      = if (((2 : ℝ) ^ (((i 2).val : ℤ) - 126) : ℝ) : EReal) ≤ q z then ((((i 2).val : ℝ) - 125 : ℝ) : EReal) else ((-126 : ℝ) : EReal) := by
  have i2 : (i 2).val < 254 := (i 2).isLt
  have hs : ((((BitVec.ofNat 32 (0 * 254 + (i 2).val)).toInt : ℝ) : EReal)) - Ideal.ofBits .f32 0x42FC0000#32
      = ((((i 2).val : ℤ) - 126 : ℤ) : ℝ) := by
    have : (BitVec.ofNat 32 (0 * 254 + (i 2).val)).toInt = ((i 2).val : ℤ) := by
      rw [BitVec.toInt_eq_toNat_of_lt (by rw [BitVec.toNat_ofNat]; omega), BitVec.toNat_ofNat]; omega
    rw [this, ofBits_126, ← EReal.coe_sub]
    push_cast
    rfl
  unfold cand
  show (if Ideal.cmp .oge (broadcastTo _ (shapeCast _ q hc) hb i)
      (Ideal.exp2 ((((BitVec.ofNat 32 (0 * 254 + (i 2).val)).toInt : ℝ) : EReal) - Ideal.ofBits .f32 0x42FC0000#32)) = 1#1
    then ((((BitVec.ofNat 32 (0 * 254 + (i 2).val)).toInt : ℝ) : EReal) - Ideal.ofBits .f32 0x42FC0000#32) + Ideal.ofBits .f32 0x3F800000#32
    else Ideal.ofBits .f32 0xC2FC0000#32) = _
  rw [hs, exp2_int, spread_apply hc q 254 hb i z h0 h1, ofBits_1, ofBits_neg126, ← EReal.coe_add]
  unfold p2
  have e : (((((i 2).val : ℤ) - 126 : ℤ) : ℝ) + 1) = ((i 2).val : ℝ) - 125 := by push_cast; ring
  rw [e]
  by_cases h : (((2 : ℝ) ^ (((i 2).val : ℤ) - 126) : ℝ) : EReal) ≤ q z <;> simp [Ideal.cmp, h]

theorem refE_apply (z : (⟨2, ![n, m]⟩ : Shape).Idx) (h0 : (0 : EReal) ≤ q z) : (refE q hi hc hb hr z : EReal) = ((Exponent.eOf (q z) : ℝ) : EReal) := by
  have z0 := idx2_lt0 z
  have z1 := idx2_lt1 z
  let K : Fin 254 → (⟨3, ![n, m, 254]⟩ : Shape).Idx := fun k => ix3 ⟨(z 0).val, z0⟩ ⟨(z 1).val, z1⟩ k
  have hK : ∀ k, hr.drop (K k) = z := fun k => idx2_ext
    (Shape.Reduces.drop_apply_val_of_eq hr _ 0 0 Nat.zero_lt_two rfl) (Shape.Reduces.drop_apply_val_of_eq hr _ 1 1 Nat.one_lt_two rfl)
  rw [← Exponent.ref_eq (q z) h0 (fun k => cand q hi hc hb (K k)) (fun k => cand_apply q hi hc hb (K k) z rfl rfl) ⊥ rfl
    (multiReduction .maximumf [2] ⟨2, ![n, m]⟩ (cand q hi hc hb) 0xFF800000#32 hr (.inl rfl) rfl z)
    (fun k => (reduce_le _ _ hr _ _ ofBits_neg_inf z _).mp le_rfl (K k) (hK k))
    (by
      rcases (le_reduce _ _ hr (.inl rfl) rfl ofBits_neg_inf z _).mp le_rfl with h | ⟨i, hi', h⟩
      · exact .inl (le_bot_iff.mp h)
      · refine .inr ⟨i 2, ?_⟩
        have hiK : K (i 2) = i := by
          have e0 : (i 0).val = (z 0).val := by rw [← hi']; exact (Shape.Reduces.drop_apply_val_of_eq hr _ 0 0 Nat.zero_lt_two rfl).symm
          have e1 : (i 1).val = (z 1).val := by rw [← hi']; exact (Shape.Reduces.drop_apply_val_of_eq hr _ 1 1 Nat.one_lt_two rfl).symm
          funext a; apply Fin.ext
          match a with
          | ⟨0, _⟩ => exact e0.symm
          | ⟨1, _⟩ => exact e1.symm
          | ⟨2, _⟩ => rfl
        show _ = cand q hi hc hb (K (i 2))
        rw [hiK]
        exact le_antisymm h ((reduce_le _ _ hr _ _ ofBits_neg_inf z _).mp le_rfl i hi'))]
  unfold refE
  generalize multiReduction .maximumf [2] ⟨2, ![n, m]⟩ (cand q hi hc hb) 0xFF800000#32 hr (.inl rfl) rfl = M
  show (if Ideal.cmp .oeq (M z) (Ideal.ofBits .f32 0xC2FC0000#32) = 1#1 then Ideal.ofBits .f32 0x00000000#32 else M z) = _
  rw [ofBits_neg126, Ideal.ofBits_zero_f32]
  by_cases h : (M z : EReal) = ((-126 : ℝ) : EReal)
  · rw [if_pos h]; simp [Ideal.cmp, h]
  · rw [if_neg h]
    have : Ideal.cmp .oeq (M z) ((-126 : ℝ) : EReal) = 0#1 := by simp only [Ideal.cmp]; rw [decide_eq_false h]; rfl
    rw [this, if_neg (by decide)]

end chain

/-! ## The activation -/

variable (a0 : Vec Ideal S16x1x4096 .bf16) (a1 : Vec Ideal S4096x6144 .bf16)

theorem pay4_apply (i : S16x32x128.Idx) : (k0_pay4 a0 i : EReal) = xN a0 (i 0).val (128 * (i 1).val + (i 2).val) := by
  have i0 : (i 0).val < 16 := (i 0).isLt
  have i1 : (i 1).val < 32 := (i 1).isLt
  have i2 : (i 2).val < 128 := (i 2).isLt
  unfold k0_pay4
  refine (shapeCast_apply _ shapeCasts_S16x1x4096_S16x32x128 i (iXR (i 0).val (128 * (i 1).val + (i 2).val)) ?_).trans rfl
  refine (rm3 _).trans (Eq.trans ?_ (rm3 _).symm)
  show ((i 0).val % 16 * 1 + 0) * 4096 + (128 * (i 1).val + (i 2).val) % 4096 = ((i 0).val * 32 + (i 1).val) * 128 + (i 2).val
  omega

/-- The largest magnitude of each group. -/
theorem amaxX (v : FVec Ideal S16x32x128 .f32) (hv : ∀ i : S16x32x128.Idx, (v i : EReal) = xN a0 (i 0).val (128 * (i 1).val + (i 2).val)) (z : S16x32.Idx) :
    (multiReduction .maximumf [2] S16x32 (absf v) 0xFF800000#32 reduces_S16x32x128_S16x32 (.inl rfl) rfl z : EReal)
      = aX (xN a0) (z 0).val (z 1).val := by
  have z0 := idx2_lt0 z
  have z1 := idx2_lt1 z
  refine eq_aX _ _ _ _ fun c => (reduce_le _ _ reduces_S16x32x128_S16x32 _ _ ofBits_neg_inf z c).trans ?_
  have hs : ∀ i : S16x32x128.Idx, (absf (F := Ideal) (s := S16x32x128) (φ := .f32) v i : EReal)
      = absE (xN a0 (i 0).val (128 * (i 1).val + (i 2).val)) := fun i => by rw [← hv]; rfl
  constructor
  · intro h l
    have := h (ix3 ⟨(z 0).val, z0⟩ ⟨(z 1).val, z1⟩ l) (idx2_ext
      (Shape.Reduces.drop_apply_val_of_eq reduces_S16x32x128_S16x32 _ 0 0) (Shape.Reduces.drop_apply_val_of_eq reduces_S16x32x128_S16x32 _ 1 1))
    exact (hs _).symm.trans_le this
  · intro h i hi
    have h0 : (i 0).val = (z 0).val := by rw [← hi]; exact (Shape.Reduces.drop_apply_val_of_eq reduces_S16x32x128_S16x32 _ 0 0).symm
    have h1 : (i 1).val = (z 1).val := by rw [← hi]; exact (Shape.Reduces.drop_apply_val_of_eq reduces_S16x32x128_S16x32 _ 1 1).symm
    refine (hs i).trans_le ?_
    rw [h0, h1]
    exact h (i 2)

theorem pay5_eq : k0_pay5 a0 = refE (mulf (multiReduction .maximumf [2] S16x32 (absf (k0_pay4 a0)) 0xFF800000#32 reduces_S16x32x128_S16x32 (.inl rfl) rfl)
    (broadcast S16x32 (Scalar.ofBits (F := Ideal) .f32 0x3B124925#32))) iota_S16x32x254_d2_w32 shapeCasts_S16x32_S16x32x1 broadcasts_S16x32x1_S16x32x254
    reduces_S16x32x254_S16x32 := rfl

theorem pay5_apply (z : S16x32.Idx) : (k0_pay5 a0 z : EReal) = ((ex (aX (xN a0) (z 0).val (z 1).val) : ℝ) : EReal) := by
  have hq : ∀ M : FVec Ideal S16x32 .f32, (M z : EReal) = aX (xN a0) (z 0).val (z 1).val →
      ((mulf M (broadcast S16x32 (Scalar.ofBits (F := Ideal) .f32 0x3B124925#32)) z : EReal)) = aX (xN a0) (z 0).val (z 1).val * cst := fun M h => by
    rw [← h]; rfl
  have hq := hq _ (amaxX a0 _ (pay4_apply a0) z)
  rw [pay5_eq, refE_apply _ _ _ _ _ z (by rw [hq]; exact quot_nonneg _ (aX_nonneg _ _ _)), hq]
  rfl

theorem exp2_neg (n : ℤ) : Ideal.exp2 ((0 : EReal) - ((n : ℝ) : EReal)) = p2 (-n) := by
  rw [← exp2_int]
  congr 1
  rw [zero_sub, ← EReal.coe_neg]; push_cast; rfl

theorem pay6_apply (i : S16x32x128.Idx) : (k0_pay6 a0 i : EReal) = xc (xN a0) (i 0).val (128 * (i 1).val + (i 2).val) := by
  have i0 : (i 0).val < 16 := (i 0).isLt
  have i1 : (i 1).val < 32 := (i 1).isLt
  have i2 : (i 2).val < 128 := (i 2).isLt
  have hb : ∀ v : FVec Ideal S16x32 .f32, broadcastTo S16x32x128 (shapeCast S16x32x1 v shapeCasts_S16x32_S16x32x1) broadcasts_S16x32x1_S16x32x128 i
      = v (KernelIdeal.Hand.ix2 (n := 16) (m := 32) (by omega) (by omega) (i 0).val (i 1).val) := fun v =>
    spread_apply _ v 128 _ i _ (Nat.mod_eq_of_lt i0) (Nat.mod_eq_of_lt i1)
  have he := pay5_apply a0 (KernelIdeal.Hand.ix2 (n := 16) (m := 32) (by omega) (by omega) (i 0).val (i 1).val)
  rw [KernelIdeal.Hand.ix2_0, KernelIdeal.Hand.ix2_1, Nat.mod_eq_of_lt i0, Nat.mod_eq_of_lt i1] at he
  unfold xc code
  rw [show (128 * (i 1).val + (i 2).val) / 128 = (i 1).val by omega, ← pay4_apply, ← exp2_neg, ← he, ← Ideal.ofBits_zero_f32]
  unfold k0_pay6
  generalize k0_pay5 a0 = E
  generalize k0_pay4 a0 = V
  show min _ (max _ ((V i : EReal) * _)) = _
  rw [hb]
  rfl

theorem pay7_apply (i : S16x32x128.Idx) : (k0_pay7 a0 i : EReal) = xd (xN a0) (i 0).val (128 * (i 1).val + (i 2).val) := by
  have i0 : (i 0).val < 16 := (i 0).isLt
  have i1 : (i 1).val < 32 := (i 1).isLt
  have i2 : (i 2).val < 128 := (i 2).isLt
  have hb : ∀ v : FVec Ideal S16x32 .f32, broadcastTo S16x32x128 (shapeCast S16x32x1 v shapeCasts_S16x32_S16x32x1) broadcasts_S16x32x1_S16x32x128 i
      = v (KernelIdeal.Hand.ix2 (n := 16) (m := 32) (by omega) (by omega) (i 0).val (i 1).val) := fun v =>
    spread_apply _ v 128 _ i _ (Nat.mod_eq_of_lt i0) (Nat.mod_eq_of_lt i1)
  have he := pay5_apply a0 (KernelIdeal.Hand.ix2 (n := 16) (m := 32) (by omega) (by omega) (i 0).val (i 1).val)
  rw [KernelIdeal.Hand.ix2_0, KernelIdeal.Hand.ix2_1, Nat.mod_eq_of_lt i0, Nat.mod_eq_of_lt i1] at he
  unfold xd
  rw [show (128 * (i 1).val + (i 2).val) / 128 = (i 1).val by omega, ← pay6_apply, ← exp2_int, ← he]
  unfold k0_pay7
  generalize k0_pay5 a0 = E
  generalize k0_pay6 a0 = V
  show (V i : EReal) * _ = _
  rw [hb]
  rfl

/-- The index of a group's element. -/
abbrev iG (r k : ℕ) : S16x32x128.Idx := ix3 (⟨r % 16, Nat.mod_lt _ (by norm_num)⟩ : Fin 16) (⟨k / 128 % 32, Nat.mod_lt _ (by norm_num)⟩ : Fin 32)
  (⟨k % 128, Nat.mod_lt _ (by norm_num)⟩ : Fin 128)

theorem castX_apply {φ : FTy} (v : FVec Ideal S16x32x128 φ) (z : S16x4096.Idx) :
    shapeCast S16x4096 v shapeCasts_S16x32x128_S16x4096 z = v (iG (z 0).val (z 1).val) := by
  have z0 := idx2_lt0 z
  have z1 := idx2_lt1 z
  refine shapeCast_apply _ shapeCasts_S16x32x128_S16x4096 z _ ((rm3 _).trans (Eq.trans ?_ (rm2 _).symm))
  show ((z 0).val % 16 * 32 + (z 1).val / 128 % 32) * 128 + (z 1).val % 128 = (z 0).val * 4096 + (z 1).val
  omega

theorem G3_eq : Value.G3 a0 a1 = resXC (xN a0) := funext fun z => by
  have z0 := idx2_lt0 z
  have z1 := idx2_lt1 z
  refine (castX_apply (k0_pay6 a0) z).trans ((pay6_apply a0 _).trans ?_)
  show xc (xN a0) ((z 0).val % 16) (128 * ((z 1).val / 128 % 32) + (z 1).val % 128) = xc (xN a0) (z 0).val (z 1).val
  congr 1 <;> omega

/-- A scale: an exponent and the bias, as an integer. -/
theorem scale_eq (n : ℤ) (hl : -127 ≤ n) (hh : n ≤ 200) :
    Ideal.fptosi 32 (((n : ℝ) : EReal) + Ideal.ofBits .f32 0x42FE0000#32) = BitVec.ofInt 32 (n + 127) := by
  rw [ofBits_127, ← EReal.coe_add, show ((n : ℝ) + 127) = ((n + 127 : ℤ) : ℝ) by push_cast; rfl]
  unfold Ideal.fptosi
  rw [Ideal.toIntClamped_coe, Int.floor_intCast, Int.ceil_intCast, ite_self]
  congr 1
  rw [min_eq_right (by norm_num; omega), max_eq_right (by norm_num; omega)]

theorem trunc_scale (e : ℤ) : (BitVec.ofInt 32 e).truncate 8 = BitVec.ofInt 8 e := by
  apply BitVec.eq_of_toNat_eq
  simp [BitVec.toNat_ofInt]
  omega

theorem G4_eq : Value.G4 a0 a1 = resXS (xN a0) := funext fun z => by
  show (Ideal.fptosi 32 ((k0_pay5 a0 z : EReal) + Ideal.ofBits .f32 0x42FE0000#32)).truncate 8 = _
  rw [pay5_apply, scale_eq _ (le_trans (by norm_num) (ex_ge _)) (le_trans (ex_le' _) (by norm_num)), trunc_scale]
  rfl

/-! ## The weight -/

theorem pay8_apply (i : S32x128x48x128.Idx) :
    (k0_pay8 a1 i : EReal) = aN a1 (128 * (i 0).val + (i 1).val) (128 * (i 2).val + (i 3).val) := by
  have i0 : (i 0).val < 32 := (i 0).isLt
  have i1 : (i 1).val < 128 := (i 1).isLt
  have i2 : (i 2).val < 48 := (i 2).isLt
  have i3 : (i 3).val < 128 := (i 3).isLt
  unfold k0_pay8
  refine (shapeCast_apply _ shapeCasts_S4096x6144_S32x128x48x128 i (iAR (128 * (i 0).val + (i 1).val) (128 * (i 2).val + (i 3).val)) ?_).trans rfl
  refine (rm2 _).trans (Eq.trans ?_ (rm4 _).symm)
  show (128 * (i 0).val + (i 1).val) % 4096 * 6144 + (128 * (i 2).val + (i 3).val) % 6144 = (((i 0).val * 128 + (i 1).val) * 48 + (i 2).val) * 128 + (i 3).val
  omega

/-- The largest magnitude of each block. -/
theorem amaxW (v : FVec Ideal S32x128x48x128 .f32)
    (hv : ∀ i : S32x128x48x128.Idx, (v i : EReal) = aN a1 (128 * (i 0).val + (i 1).val) (128 * (i 2).val + (i 3).val)) (z : S32x48.Idx) :
    (multiReduction .maximumf [1, 3] S32x48 (absf v) 0xFF800000#32 reduces_S32x128x48x128_S32x48 (.inl rfl) rfl z : EReal)
      = aW (aN a1) (z 0).val (z 1).val := by
  have z0 := idx2_lt0 z
  have z1 := idx2_lt1 z
  refine eq_aW _ _ _ _ fun c => (reduce_le _ _ reduces_S32x128x48x128_S32x48 _ _ ofBits_neg_inf z c).trans ?_
  have hs : ∀ i : S32x128x48x128.Idx, (absf (F := Ideal) (s := S32x128x48x128) (φ := .f32) v i : EReal)
      = absE (aN a1 (128 * (i 0).val + (i 1).val) (128 * (i 2).val + (i 3).val)) := fun i => by rw [← hv]; rfl
  constructor
  · intro h p l
    have := h (ix4 ⟨(z 0).val, z0⟩ p ⟨(z 1).val, z1⟩ l) (idx2_ext
      (Shape.Reduces.drop_apply_val_of_eq reduces_S32x128x48x128_S32x48 _ 0 0) (Shape.Reduces.drop_apply_val_of_eq reduces_S32x128x48x128_S32x48 _ 1 2))
    exact (hs _).symm.trans_le this
  · intro h i hi
    have h0 : (i 0).val = (z 0).val := by rw [← hi]; exact (Shape.Reduces.drop_apply_val_of_eq reduces_S32x128x48x128_S32x48 _ 0 0).symm
    have h1 : (i 2).val = (z 1).val := by rw [← hi]; exact (Shape.Reduces.drop_apply_val_of_eq reduces_S32x128x48x128_S32x48 _ 1 2).symm
    refine (hs i).trans_le ?_
    rw [h0, h1]
    exact h (i 1) (i 3)

theorem pay10_eq (v : FVec Ideal S32x128x48x128 .f32) :
    k0_pay10 v = refE (mulf (multiReduction .maximumf [1, 3] S32x48 v 0xFF800000#32 reduces_S32x128x48x128_S32x48 (.inl rfl) rfl)
    (broadcast S32x48 (Scalar.ofBits (F := Ideal) .f32 0x3B124925#32))) iota_S32x48x254_d2_w32 shapeCasts_S32x48_S32x48x1 broadcasts_S32x48x1_S32x48x254
    reduces_S32x48x254_S32x48 := rfl

theorem pay10_apply (z : S32x48.Idx) : (k0_pay10 (k0_pay9 a1) z : EReal) = ((ex (aW (aN a1) (z 0).val (z 1).val) : ℝ) : EReal) := by
  have hq : ∀ M : FVec Ideal S32x48 .f32, (M z : EReal) = aW (aN a1) (z 0).val (z 1).val →
      ((mulf M (broadcast S32x48 (Scalar.ofBits (F := Ideal) .f32 0x3B124925#32)) z : EReal)) = aW (aN a1) (z 0).val (z 1).val * cst := fun M h => by
    rw [← h]; rfl
  have hq := hq _ (amaxW a1 _ (pay8_apply a1) z)
  unfold k0_pay9
  rw [pay10_eq, refE_apply _ _ _ _ _ z (by rw [hq]; exact quot_nonneg _ (aW_nonneg _ _ _)), hq]
  rfl

theorem spreadW_apply (v : FVec Ideal S32x48 .f32) (i : S32x128x48x128.Idx) :
    broadcastTo S32x128x48x128 (shapeCast S32x1x48x1 v shapeCasts_S32x48_S32x1x48x1) broadcasts_S32x1x48x1_S32x128x48x128 i
      = v (KernelIdeal.Hand.ix2 (n := 32) (m := 48) (by omega) (by omega) (i 0).val (i 2).val) := by
  have i0 : (i 0).val < 32 := (i 0).isLt
  have i2 : (i 2).val < 48 := (i 2).isLt
  rw [broadcastTo_apply _ broadcasts_S32x1x48x1_S32x128x48x128 i (ix4 (⟨(i 0).val, i0⟩ : Fin 32) (0 : Fin 1) (⟨(i 2).val, i2⟩ : Fin 48) (0 : Fin 1)) (fun a => by
    match a with
    | ⟨0, _⟩ => rfl
    | ⟨1, _⟩ => rfl
    | ⟨2, _⟩ => rfl
    | ⟨3, _⟩ => rfl)]
  refine shapeCast_apply _ shapeCasts_S32x48_S32x1x48x1 _ _ ?_
  refine (rm2 _).trans (Eq.trans ?_ (rm4 _).symm)
  show (i 0).val % 32 * 48 + (i 2).val % 48 = (((i 0).val * 1 + 0) * 48 + (i 2).val) * 1 + 0
  omega

theorem pay11_apply (i : S32x128x48x128.Idx) :
    (k0_pay11 (k0_pay8 a1) (k0_pay9 a1) i : EReal) = wc (aN a1) (128 * (i 0).val + (i 1).val) (128 * (i 2).val + (i 3).val) := by
  have i0 : (i 0).val < 32 := (i 0).isLt
  have i1 : (i 1).val < 128 := (i 1).isLt
  have i2 : (i 2).val < 48 := (i 2).isLt
  have i3 : (i 3).val < 128 := (i 3).isLt
  have he := pay10_apply a1 (KernelIdeal.Hand.ix2 (n := 32) (m := 48) (by omega) (by omega) (i 0).val (i 2).val)
  rw [KernelIdeal.Hand.ix2_0, KernelIdeal.Hand.ix2_1, Nat.mod_eq_of_lt i0, Nat.mod_eq_of_lt i2] at he
  unfold wc code
  rw [show (128 * (i 0).val + (i 1).val) / 128 = (i 0).val by omega, show (128 * (i 2).val + (i 3).val) / 128 = (i 2).val by omega,
    ← pay8_apply, ← exp2_neg, ← he, ← Ideal.ofBits_zero_f32]
  unfold k0_pay11
  generalize k0_pay10 (k0_pay9 a1) = E
  generalize k0_pay8 a1 = V
  show min _ (max _ ((V i : EReal) * _)) = _
  rw [spreadW_apply]
  rfl

/-- The weight's codes, scaled back. -/
def backW (v42 v43 : FVec Ideal S32x128x48x128 .f32) : FVec Ideal S32x128x48x128 .f32 :=
  mulf (extf .f32 (k0_pay11 v42 v43) bitsLt_fp8e4m3_f32)
    (broadcastTo S32x128x48x128 (shapeCast S32x1x48x1 (exp2 (k0_pay10 v43)) shapeCasts_S32x48_S32x1x48x1) broadcasts_S32x1x48x1_S32x128x48x128)

theorem backW_apply (i : S32x128x48x128.Idx) :
    (backW (k0_pay8 a1) (k0_pay9 a1) i : EReal) = wd (aN a1) (128 * (i 0).val + (i 1).val) (128 * (i 2).val + (i 3).val) := by
  have i0 : (i 0).val < 32 := (i 0).isLt
  have i1 : (i 1).val < 128 := (i 1).isLt
  have i2 : (i 2).val < 48 := (i 2).isLt
  have i3 : (i 3).val < 128 := (i 3).isLt
  have he := pay10_apply a1 (KernelIdeal.Hand.ix2 (n := 32) (m := 48) (by omega) (by omega) (i 0).val (i 2).val)
  rw [KernelIdeal.Hand.ix2_0, KernelIdeal.Hand.ix2_1, Nat.mod_eq_of_lt i0, Nat.mod_eq_of_lt i2] at he
  unfold wd
  rw [show (128 * (i 0).val + (i 1).val) / 128 = (i 0).val by omega, show (128 * (i 2).val + (i 3).val) / 128 = (i 2).val by omega,
    ← pay11_apply, ← exp2_int, ← he]
  unfold backW
  generalize k0_pay10 (k0_pay9 a1) = E
  generalize k0_pay11 (k0_pay8 a1) (k0_pay9 a1) = V
  show (V i : EReal) * _ = _
  rw [spreadW_apply]
  rfl

/-- The index of a block's element. -/
abbrev iT (k n : ℕ) : S32x128x48x128.Idx := ix4 (⟨k / 128 % 32, Nat.mod_lt _ (by norm_num)⟩ : Fin 32) (⟨k % 128, Nat.mod_lt _ (by norm_num)⟩ : Fin 128)
  (⟨n / 128 % 48, Nat.mod_lt _ (by norm_num)⟩ : Fin 48) (⟨n % 128, Nat.mod_lt _ (by norm_num)⟩ : Fin 128)

theorem castW_apply {φ : FTy} (v : FVec Ideal S32x128x48x128 φ) (z : S4096x6144.Idx) :
    shapeCast S4096x6144 v shapeCasts_S32x128x48x128_S4096x6144 z = v (iT (z 0).val (z 1).val) := by
  have z0 := idx2_lt0 z
  have z1 := idx2_lt1 z
  refine shapeCast_apply _ shapeCasts_S32x128x48x128_S4096x6144 z _ ((rm4 _).trans (Eq.trans ?_ (rm2 _).symm))
  show (((z 0).val / 128 % 32 * 128 + (z 0).val % 128) * 48 + (z 1).val / 128 % 48) * 128 + (z 1).val % 128 = (z 0).val * 6144 + (z 1).val
  omega

theorem ld_whole (x1 : Vec Ideal S4096x6144 .bf16) : View.ld x1 r0_1 = x1 := View.ld_unit_zero (S := S4096x6144) Value.hz1 _ x1

theorem pay14_eq : k0_pay14 a0 a1 = k0_pay8 a1 := congrArg k0_pay8 (ld_whole a1)
theorem pay15_eq : k0_pay15 a0 a1 = k0_pay9 a1 := congrArg k0_pay9 (ld_whole a1)

theorem G5_eq : Value.G5 a0 a1 = resWC (aN a1) := funext fun z => by
  have z0 := idx2_lt0 z
  have z1 := idx2_lt1 z
  show k0_pay2 (k0_pay11 (k0_pay14 a0 a1) (k0_pay15 a0 a1)) z = _
  rw [pay14_eq, pay15_eq]
  refine (castW_apply (k0_pay11 (k0_pay8 a1) (k0_pay9 a1)) z).trans ((pay11_apply a1 _).trans ?_)
  show wc (aN a1) (128 * ((z 0).val / 128 % 32) + (z 0).val % 128) (128 * ((z 1).val / 128 % 48) + (z 1).val % 128) = wc (aN a1) (z 0).val (z 1).val
  congr 1 <;> omega

theorem G6_eq : Value.G6 a0 a1 = resWS (aN a1) := funext fun z => by
  show k0_pay3 (k0_pay10 (k0_pay15 a0 a1)) z = _
  rw [pay15_eq]
  show Ideal.fptosi 32 ((k0_pay10 (k0_pay9 a1) z : EReal) + Ideal.ofBits .f32 0x42FE0000#32) = _
  rw [pay10_apply, scale_eq _ (le_trans (by norm_num) (ex_ge _)) (le_trans (ex_le' _) (by norm_num))]
  rfl

/-! ## The product -/

theorem matmul_apply (l : FVec Ideal S16x4096 .f32) (r : FVec Ideal S4096x6144 .f32) (L R : ℕ → ℕ → EReal)
    (hl : ∀ z : S16x4096.Idx, (l z : EReal) = L (z 0).val (z 1).val) (hr : ∀ z : S4096x6144.Idx, (r z : EReal) = R (z 0).val (z 1).val) (z : S16x6144.Idx) :
    (matmul dot_S16x4096_S4096x6144_S16x6144_1_0_0_1_n_n none l r (constant S16x6144 .f32 0x00000000#32) z : EReal)
      = ∑ k ∈ Finset.range 4096, L (z 0).val k * R k (z 1).val := by
  have z0 := idx2_lt0 z
  have z1 := idx2_lt1 z
  have e := Ideal.matmul_plain_apply (M := 16) (K := 4096) (N := 6144) (φ₁ := .f32) (φ₂ := .f32) none l r
    (constant S16x6144 .f32 0x00000000#32) ⟨(z 0).val, z0⟩ ⟨(z 1).val, z1⟩
  have hz : z = ValueIdx.ix2 ⟨(z 0).val, z0⟩ ⟨(z 1).val, z1⟩ := idx2_ext rfl rfl
  refine Eq.trans ?_ (e.trans ?_)
  · exact congrArg (matmul dot_S16x4096_S4096x6144_S16x6144_1_0_0_1_n_n none l r (constant S16x6144 .f32 0x00000000#32)) hz
  · rw [show (constant S16x6144 .f32 0x00000000#32 : FVec Ideal S16x6144 .f32) (ValueIdx.ix2 ⟨(z 0).val, z0⟩ ⟨(z 1).val, z1⟩) = 0 from Ideal.ofBits_zero_f32,
      zero_add, ← Fin.sum_univ_eq_sum_range (fun k => L (z 0).val k * R k (z 1).val) 4096]
    refine Finset.sum_congr rfl fun k _ => ?_
    exact congrArg₂ (· * ·) (hl _) (hr _)

theorem pay12_eq (v39 : FVec Ideal S16x32x128 .f32) (v42 v43 : FVec Ideal S32x128x48x128 .f32) :
    k0_pay12 v39 v42 v43 = truncf .bf16 (matmul dot_S16x4096_S4096x6144_S16x6144_1_0_0_1_n_n none
      (shapeCast S16x4096 v39 shapeCasts_S16x32x128_S16x4096) (shapeCast S4096x6144 (backW v42 v43) shapeCasts_S32x128x48x128_S4096x6144)
      (constant S16x6144 .f32 0x00000000#32)) bitsLt_bf16_f32 := rfl

theorem G2_eq : Value.G2 a0 a1 = resY (xN a0) (aN a1) := funext fun z => by
  show k0_pay12 (k0_pay7 a0) (k0_pay14 a0 a1) (k0_pay15 a0 a1) z = _
  rw [pay14_eq, pay15_eq, pay12_eq]
  refine (matmul_apply _ _ (xd (xN a0)) (wd (aN a1)) (fun z => ?_) (fun z => ?_) z).trans rfl
  · have z0 := idx2_lt0 z
    have z1 := idx2_lt1 z
    refine (castX_apply (k0_pay7 a0) z).trans ((pay7_apply a0 _).trans ?_)
    show xd (xN a0) ((z 0).val % 16) (128 * ((z 1).val / 128 % 32) + (z 1).val % 128) = xd (xN a0) (z 0).val (z 1).val
    congr 1 <;> omega
  · have z0 := idx2_lt0 z
    have z1 := idx2_lt1 z
    refine (castW_apply (backW (k0_pay8 a1) (k0_pay9 a1)) z).trans ((backW_apply a1 _).trans ?_)
    show wd (aN a1) (128 * ((z 0).val / 128 % 32) + (z 0).val % 128) (128 * ((z 1).val / 128 % 48) + (z 1).val % 128) = wd (aN a1) (z 0).val (z 1).val
    congr 1 <;> omega

end Cert.ReferenceIdeal.Hand

end
-- ==== Proof.Finite.lean ====
/-
  The precondition: every element of the two arguments is at most the bound in magnitude.
-/
module

public import proofs.«01_k».proof.Pre_finite
public import proofs.«01_k».proof.Proof.KernelValues
public import Idealize.ShloMosaic.Lib.ReduceAll

@[expose] public section

noncomputable section

namespace Cert.Pre_finite

open Idealize.ShloMosaic Cert.Spec
open Cert.KernelIdeal.Hand (Bounded)

variable [Facts]

instance : Subsingleton S_.Idx := ⟨fun _ _ => funext fun a => a.elim0⟩

theorem le_of_ole (x y : EReal) (h : Ideal.cmp .ole x y = 1#1) : x ≤ y := by
  by_contra hn
  simp [Ideal.cmp, hn] at h

theorem bounded (a0 : FVec Ideal S16x1x4096 .bf16) (a1 : FVec Ideal S4096x6144 .bf16) (h : fn (F := Ideal) a0 a1 = fun _ => 1#1) :
    Bounded 16 4096 (xN a0) ∧ Bounded 4096 6144 (aN a1) := by
  have h := congrFun h (fun a => a.elim0)
  unfold fn at h
  obtain ⟨h0, h1⟩ := IntOp.andi_eq_one.1 h
  refine ⟨fun r k _ _ => ?_, fun k n _ _ => ?_⟩
  · exact le_of_ole _ _ (Host.reduce_andi_all _ _ _ _ _ h0 (iXR r k))
  · exact le_of_ole _ _ (Host.reduce_andi_all _ _ _ _ _ h1 (iAR k n))

end Cert.Pre_finite

end
-- ==== Proof.lean ====
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_finite
public import proofs.«01_k».proof.Proof.Gen.ReferenceIdeal.Value
public import proofs.«01_k».proof.Proof.KernelFrame
public import proofs.«01_k».proof.Proof.Reading
public import proofs.«01_k».proof.Proof.RefValues
public import proofs.«01_k».proof.Proof.Finite
public import Idealize.ShloMosaic.Adequacy
public import Idealize.ShloMosaic.Init

@[expose] public section

noncomputable section

namespace Cert.Proof

open Idealize.ShloMosaic Idealize.SL.Sem Cert.Kernel

/-- The kernel and the reference end with the same five arrays: `Cert.Spec`'s of the arguments. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre hagree
  have hb := fun c => Cert.Pre_finite.bounded _ _ (hpre c)
  refine ⟨_, _, _, _, _, Cert.KernelIdeal.Hand.run_values m g (fun c => (hb c).1) (fun c => (hb c).2),
    (θ_run _ _ _).mono (fun r h c => ?_) (Cert.ReferenceIdeal.Value.run (F := Ideal) m' g')⟩
  obtain ⟨h2, h3, h4, h5, h6, k0, k1⟩ := h c
  obtain ⟨e0, e1⟩ := hagree c
  refine ⟨h2.trans ?_, h3.trans ?_, h4.trans ?_, h5.trans ?_, h6.trans ?_, k0, k1⟩
  · rw [Cert.ReferenceIdeal.Hand.G2_eq, e0, e1]
  · rw [Cert.ReferenceIdeal.Hand.G3_eq, e0]
  · rw [Cert.ReferenceIdeal.Hand.G4_eq, e0]
  · rw [Cert.ReferenceIdeal.Hand.G5_eq, e1]
  · rw [Cert.ReferenceIdeal.Hand.G6_eq, e1]

theorem claim : Cert.Claim := ⟨Cert.Kernel.Gen.facts, Cert.KernelIdeal.Gen.facts, Cert.ReferenceIdeal.Gen.facts, Cert.Pre_finite.Gen.facts,
  fun m ρ _ => Cert.Kernel.Hand.frame m ρ, fun m ρ _ => Cert.KernelIdeal.Hand.frame m ρ, fun m ρ _ => Cert.KernelIdeal.Hand.frame m ρ,
  fun m ρ _ => Cert.ReferenceIdeal.Gen.frame m ρ, fun m ρ _ => Cert.ReferenceIdeal.Gen.frame m ρ, trivial, algebraic⟩

end Cert.Proof

end
